-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S4x1536x2560 : Shape := ⟨3, ![4, 1536, 2560]⟩
abbrev S2560 : Shape := ⟨1, ![2560]⟩
abbrev S18688x2560 : Shape := ⟨2, ![18688, 2560]⟩
abbrev S18688 : Shape := ⟨1, ![18688]⟩
abbrev S_ : Shape := ⟨0, ![]⟩

class Facts : Prop where
  bcast_S_S2560 : S_.BroadcastsInDim S2560 (![] : Fin 0 → Fin S2560.rank)
  reducesTo_S2560_S_d0 : S2560.ReducesTo [0] S_
  h_S_ : 0 < S_.numel

variable [Facts]

def fn {F : FTy → Type} [FloatOps F] (main_arg0 : FVec F S4x1536x2560 .bf16) (main_arg1 : FVec F S2560 .bf16) (main_arg2 : FVec F S18688x2560 .fp8e4m3) (main_arg3 : FVec F S18688 .f32) : IVec S_ 1 :=
  let main_v0 : FVec F S2560 .bf16 := Host.absf main_arg1
  let main_cst : FVec F S_ .bf16 := constant S_ .bf16 0x7F7F#16
  let main_v1 : FVec F S2560 .bf16 := broadcastInDim S2560 ![] bcast_S_S2560 main_cst
  let main_v2 : IVec S2560 1 := cmpf .ole main_v0 main_v1
  let main_c : IVec S_ 1 := constantI S_ 1 1#1
  let main_v3 : IVec S_ 1 := (fun x v => Host.reduce IntOp.andi x v reducesTo_S2560_S_d0 h_S_) main_v2 main_c
  main_v3
-- ==== Kernel.lean ====
abbrev S4x1536x2560 : Shape := ⟨3, ![4, 1536, 2560]⟩
abbrev S2560 : Shape := ⟨1, ![2560]⟩
abbrev S18688x2560 : Shape := ⟨2, ![18688, 2560]⟩
abbrev S18688 : Shape := ⟨1, ![18688]⟩
abbrev S6144x2560 : Shape := ⟨2, ![6144, 2560]⟩
abbrev S1x2560 : Shape := ⟨2, ![1, 2560]⟩
abbrev S1x18688 : Shape := ⟨2, ![1, 18688]⟩
abbrev S6144x18688 : Shape := ⟨2, ![6144, 18688]⟩
abbrev S6144x1 : Shape := ⟨2, ![6144, 1]⟩
abbrev S2048x2560 : Shape := ⟨2, ![2048, 2560]⟩
abbrev S1024x2560 : Shape := ⟨2, ![1024, 2560]⟩
abbrev S1x1024 : Shape := ⟨2, ![1, 1024]⟩
abbrev S2048x1024 : Shape := ⟨2, ![2048, 1024]⟩
abbrev S2048x1 : Shape := ⟨2, ![2048, 1]⟩
abbrev S32x2560 : Shape := ⟨2, ![32, 2560]⟩
abbrev S32 : Shape := ⟨1, ![32]⟩
abbrev S32x1 : Shape := ⟨2, ![32, 1]⟩
abbrev S4x1536x18688 : Shape := ⟨3, ![4, 1536, 18688]⟩
abbrev S4x1536x1 : Shape := ⟨3, ![4, 1536, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x1536x2560, .bf16⟩
  | .hbm, ⟨1, _⟩ => ⟨S2560, .bf16⟩
  | .hbm, ⟨2, _⟩ => ⟨S18688x2560, .fp8e4m3⟩
  | .hbm, ⟨3, _⟩ => ⟨S18688, .f32⟩
  | .hbm, ⟨4, _⟩ => ⟨S6144x2560, .bf16⟩
  | .hbm, ⟨5, _⟩ => ⟨S1x2560, .bf16⟩
  | .hbm, ⟨6, _⟩ => ⟨S1x18688, .f32⟩
  | .hbm, ⟨7, _⟩ => ⟨S6144x18688, .bf16⟩
  | .hbm, ⟨8, _⟩ => ⟨S6144x2560, .fp8e5m2⟩
  | .hbm, ⟨9, _⟩ => ⟨S6144x1, .f32⟩
  | .hbm, ⟨10, _⟩ => ⟨S4x1536x18688, .bf16⟩
  | .hbm, ⟨11, _⟩ => ⟨S4x1536x2560, .fp8e5m2⟩
  | .hbm, ⟨12, _⟩ => ⟨S4x1536x1, .f32⟩
  | .local _ .vmem, ⟨0, _⟩ => ⟨S2048x2560, .bf16⟩
  | .local _ .vmem, ⟨1, _⟩ => ⟨S2048x2560, .bf16⟩
  | .local _ .vmem, ⟨2, _⟩ => ⟨S1x2560, .bf16⟩
  | .local _ .vmem, ⟨3, _⟩ => ⟨S1024x2560, .fp8e4m3⟩
  | .local _ .vmem, ⟨4, _⟩ => ⟨S1024x2560, .fp8e4m3⟩
  | .local _ .vmem, ⟨5, _⟩ => ⟨S1x1024, .f32⟩
  | .local _ .vmem, ⟨6, _⟩ => ⟨S1x1024, .f32⟩
  | .local _ .vmem, ⟨7, _⟩ => ⟨S2048x1024, .bf16⟩
  | .local _ .vmem, ⟨8, _⟩ => ⟨S2048x1024, .bf16⟩
  | .local _ .vmem, ⟨9, _⟩ => ⟨S2048x2560, .fp8e5m2⟩
  | .local _ .vmem, ⟨10, _⟩ => ⟨S2048x2560, .fp8e5m2⟩
  | .local _ .vmem, ⟨11, _⟩ => ⟨S2048x1, .f32⟩
  | .local _ .vmem, ⟨12, _⟩ => ⟨S2048x1, .f32⟩
  | _, _ => ⟨S4x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c64_i32 : BitVec 32 := 64#32
  let v20 : BitVec 32 := Scalar.addi c0_i32_12 c64_i32
  let c1_i32 : BitVec 32 := 1#32
  ⟨c0_i32_12, v20, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c32_i32 : BitVec 32 := 32#32
  let v21 : BitVec 32 := Scalar.muli arg9 c32_i32
  v21
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c32_i32 : BitVec 32 := 32#32
  let v21 : BitVec 32 := Scalar.muli arg9 c32_i32
  let v22 : BitVec 32 := v21
  let v23 : Index := Scalar.indexCast v22
  let c0_14 : Index := 0#32
  ![v23.toNat, 0]
def k0_off2 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c32_i32 : BitVec 32 := 32#32
  let v21 : BitVec 32 := Scalar.muli arg9 c32_i32
  let v22 : BitVec 32 := v21
  let v129 : Index := Scalar.indexCast v22
  let c0_39 : Index := 0#32
  ![v129.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x2560 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_d" => some ((1 / 2560 : ℝ) : EReal)
  | _ => none
-- ==== ReferenceIdeal.lean ====
abbrev S4x1536x2560 : Shape := ⟨3, ![4, 1536, 2560]⟩
abbrev S2560 : Shape := ⟨1, ![2560]⟩
abbrev S18688x2560 : Shape := ⟨2, ![18688, 2560]⟩
abbrev S18688 : Shape := ⟨1, ![18688]⟩
abbrev S6144x2560 : Shape := ⟨2, ![6144, 2560]⟩
abbrev S1x2560 : Shape := ⟨2, ![1, 2560]⟩
abbrev S1x18688 : Shape := ⟨2, ![1, 18688]⟩
abbrev S6144x18688 : Shape := ⟨2, ![6144, 18688]⟩
abbrev S6144x1 : Shape := ⟨2, ![6144, 1]⟩
abbrev S6144 : Shape := ⟨1, ![6144]⟩
abbrev S4x1536x18688 : Shape := ⟨3, ![4, 1536, 18688]⟩
abbrev S4x1536x1 : Shape := ⟨3, ![4, 1536, 1]⟩

abbrev nBuf : Space → Nat
  | .hbm => 13
  | .vmem => 7
  | .smem => 0
  | _ => 0

abbrev bufTy : (tb : Table) → Fin (tcTables nBuf tb) → BufTy
  | .hbm, ⟨0, _⟩ => ⟨S4x1536x2560, .bf16⟩
  | .hbm, ⟨1, _⟩ => ⟨S2560, .bf16⟩
  | .hbm, ⟨2, _⟩ => ⟨S18688x2560, .fp8e4m3⟩
  | .hbm, ⟨3, _⟩ => ⟨S18688, .f32⟩
  | .hbm, ⟨4, _⟩ => ⟨S6144x2560, .bf16⟩
  | .hbm, ⟨5, _⟩ => ⟨S1x2560, .bf16⟩
  | .hbm, ⟨6, _⟩ => ⟨S1x18688, .f32⟩
  | .hbm, ⟨7, _⟩ => ⟨S6144x18688, .bf16⟩
  | .hbm, ⟨8, _⟩ => ⟨S6144x2560, .fp8e5m2⟩
  | .hbm, ⟨9, _⟩ => ⟨S6144x1, .f32⟩
  | .hbm, ⟨10, _⟩ => ⟨S4x1536x18688, .bf16⟩
  | .hbm, ⟨11, _⟩ => ⟨S4x1536x2560, .fp8e5m2⟩
  | .hbm, ⟨12, _⟩ => ⟨S4x1536x1, .f32⟩
  | .local _ .vmem, ⟨0, _⟩ => ⟨S6144x2560, .bf16⟩
  | .local _ .vmem, ⟨1, _⟩ => ⟨S1x2560, .bf16⟩
  | .local _ .vmem, ⟨2, _⟩ => ⟨S18688x2560, .fp8e4m3⟩
  | .local _ .vmem, ⟨3, _⟩ => ⟨S1x18688, .f32⟩
  | .local _ .vmem, ⟨4, _⟩ => ⟨S6144x18688, .bf16⟩
  | .local _ .vmem, ⟨5, _⟩ => ⟨S6144x2560, .fp8e5m2⟩
  | .local _ .vmem, ⟨6, _⟩ => ⟨S6144x1, .f32⟩
  | _, _ => ⟨S4x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S6144x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18688x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x18688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x2560 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- The frame of `Kernel`, first part: the buffers the host lines after the region write, the frame's post from a run that
   names no staging contents, the branch condition in closed form, and the body's run in its two cases (the row block's
   first column block, where the quantiser loop runs, and every other one). Every window's contents are left unnamed: a
   frame reads none of them, and the last column block's weights come by a cut fetch whose tail nothing names. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- the accesses' rectangles have production extents: the elaborator's structural look at a membership recurses once per coordinate
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 19) — by arithmetic of the point. -/
theorem hcond0_0 : ∀ t : Fin cfg0.N, cond0_0 (grid0.coords t) ↔ t.val % 19 = 0 :=
  (fun t => by
    have ht : t.val < 57 := Nat.lt_of_lt_of_eq t.isLt N_0
    have e0 : (grid0.coords t 0).val = t.val / 19 % 3 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 19 = 0)

/-! ## The kernel body on any staging memrefs: a subtype the run finds -/

/-- Each window's current staging memref at point `t`, spelled as the pipeline passes it (`bodyAt0`), and its wholeness. -/
abbrev ms0_0 (t : Fin cfg0.N) : Memref sig .tc .vmem S2048x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2560 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)

-- (the run's proof term is large: checking it walks past the default budget)
set_option maxHeartbeats 1000000 in
/-- The body's triple IN CASE A (`scf.if` 0 taken: points 0, 19, 38): on whole staging memrefs — the inputs' at their contents,
    the FORGOTTEN outputs' (4, 5, 6) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : cond0_0 i)
    (x0 : Vec F S2048x2560 .bf16) (x1 : Vec F S1x2560 .bf16) (x2 : Vec F S1024x2560 .fp8e4m3) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

-- (the run's proof term is large: checking it walks past the default budget)
set_option maxHeartbeats 1000000 in
/-- The body's triple IN CASE B (`scf.if` 0 not taken: points 1, 2, … 56: 54 of 57): on whole staging memrefs — the inputs' at their contents,
    the FORGOTTEN outputs' (4, 5, 6) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : ¬cond0_0 i)
    (x0 : Vec F S2048x2560 .bf16) (x1 : Vec F S1x2560 .bf16) (x2 : Vec F S1024x2560 .fp8e4m3) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

end Cert.Kernel.Hand

end
-- ==== Proof.KernelFrame.lean ====
/- The frame of `Kernel`, second part: the body obligation with every window's contents left unnamed, the launch, and the
   frame claim's statement at any float values. -/
module

public import proofs.«01_k».proof.Proof.KernelRuns
public import Idealize.ShloMosaic.Lib.Claim

@[expose] public section

-- the accesses' rectangles have production extents: the elaborator's structural look at a membership recurses once per coordinate
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is left unnamed: the frame reads no staging buffer's contents. -/
def forgets0 : Fin 7 → Bool := fun _ => true

/-- The proof data of the one pipeline on core `c`: the arrays as the region finds them; no staging buffer's contents
    named; the class's invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: whatever the staging buffers hold, the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases h0 : t.val % 19 = 0
  · iapply ((kernelRun0_A c (grid0.coords t) _ _ _ _ _ _ _ _ _ _ _ _ _ _ ((hcond0_0 t).mpr h0) d0 d1 d2 d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexists _; iexact H0
    isplitl [H1]; · iexists _; iexact H1
    isplitl [H2]; · iexists _; iexact H2
    isplitl [H3]; · iexists _; iexact H3
    isplitl [H4]; · iexact H4
    isplitl [H5]; · iexact H5
    iexact H6
  · iapply ((kernelRun0_B c (grid0.coords t) _ _ _ _ _ _ _ _ _ _ _ _ _ _ (fun h => h0 ((hcond0_0 t).mp h)) d0 d1 d2 d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexists _; iexact H0
    isplitl [H1]; · iexists _; iexact H1
    isplitl [H2]; · iexists _; iexact H2
    isplitl [H3]; · iexists _; iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofR m ρ (fun c => (dats m 0 c).toRForget forgets0) (A_eq m) (run_main m ρ)

/-- The frame: the run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdealRuns.lean ====
/- The frame of `KernelIdeal`, first part: the buffers the host lines after the region write, the frame's post from a run that
   names no staging contents, the branch condition in closed form, and the body's run in its two cases (the row block's
   first column block, where the quantiser loop runs, and every other one). Every window's contents are left unnamed: a
   frame reads none of them, and the last column block's weights come by a cut fetch whose tail nothing names. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

-- the accesses' rectangles have production extents: the elaborator's structural look at a membership recurses once per coordinate
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 19) — by arithmetic of the point. -/
theorem hcond0_0 : ∀ t : Fin cfg0.N, cond0_0 (grid0.coords t) ↔ t.val % 19 = 0 :=
  (fun t => by
    have ht : t.val < 57 := Nat.lt_of_lt_of_eq t.isLt N_0
    have e0 : (grid0.coords t 0).val = t.val / 19 % 3 := Pipeline.Grid.coords_val t 0 (by decide) rfl
    have e1 : (grid0.coords t 1).val = t.val / 1 % 19 := Pipeline.Grid.coords_val t 1 (by decide) rfl
    simp only [cond0_0, k0_cond1, e0, e1]
    word_cmp
   : ∀ t : Fin grid0.N, cond0_0 (grid0.coords t) ↔ t.val % 19 = 0)

/-! ## The kernel body on any staging memrefs: a subtype the run finds -/

/-- Each window's current staging memref at point `t`, spelled as the pipeline passes it (`bodyAt0`), and its wholeness. -/
abbrev ms0_0 (t : Fin cfg0.N) : Memref sig .tc .vmem S2048x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2560 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)

-- (the run's proof term is large: checking it walks past the default budget)
set_option maxHeartbeats 1000000 in
/-- The body's triple IN CASE A (`scf.if` 0 taken: points 0, 19, 38): on whole staging memrefs — the inputs' at their contents,
    the FORGOTTEN outputs' (4, 5, 6) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : cond0_0 i)
    (x0 : Vec F S2048x2560 .bf16) (x1 : Vec F S1x2560 .bf16) (x2 : Vec F S1024x2560 .fp8e4m3) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

-- (the run's proof term is large: checking it walks past the default budget)
set_option maxHeartbeats 1000000 in
/-- The body's triple IN CASE B (`scf.if` 0 not taken: points 1, 2, … 56: 54 of 57): on whole staging memrefs — the inputs' at their contents,
    the FORGOTTEN outputs' (4, 5, 6) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : ¬cond0_0 i)
    (x0 : Vec F S2048x2560 .bf16) (x1 : Vec F S1x2560 .bf16) (x2 : Vec F S1024x2560 .fp8e4m3) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

end Cert.KernelIdeal.Hand

end
-- ==== Proof.KernelIdealFrame.lean ====
/- The frame of `KernelIdeal`, second part: the body obligation with every window's contents left unnamed, the launch, and the
   frame claim's statement at any float values. -/
module

public import proofs.«01_k».proof.Proof.KernelIdealRuns
public import Idealize.ShloMosaic.Lib.Claim

@[expose] public section

-- the accesses' rectangles have production extents: the elaborator's structural look at a membership recurses once per coordinate
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every window is left unnamed: the frame reads no staging buffer's contents. -/
def forgets0 : Fin 7 → Bool := fun _ => true

/-- The proof data of the one pipeline on core `c`: the arrays as the region finds them; no staging buffer's contents
    named; the class's invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: whatever the staging buffers hold, the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases h0 : t.val % 19 = 0
  · iapply ((kernelRun0_A c (grid0.coords t) _ _ _ _ _ _ _ _ _ _ _ _ _ _ ((hcond0_0 t).mpr h0) d0 d1 d2 d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexists _; iexact H0
    isplitl [H1]; · iexists _; iexact H1
    isplitl [H2]; · iexists _; iexact H2
    isplitl [H3]; · iexists _; iexact H3
    isplitl [H4]; · iexact H4
    isplitl [H5]; · iexact H5
    iexact H6
  · iapply ((kernelRun0_B c (grid0.coords t) _ _ _ _ _ _ _ _ _ _ _ _ _ _ (fun h => h0 ((hcond0_0 t).mp h)) d0 d1 d2 d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexists _; iexact H0
    isplitl [H1]; · iexists _; iexact H1
    isplitl [H2]; · iexists _; iexact H2
    isplitl [H3]; · iexists _; iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofR m ρ (fun c => (dats m 0 c).toRForget forgets0) (A_eq m) (run_main m ρ)

/-- The frame: the run ends, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Exponent.lean ====
/- The power-of-two scale of a nonnegative number below 2^126: the kernel's search for the exponent, eight comparisons against
   powers of two written as words, against the reference's floor of the logarithm to base two plus one. -/
module

public import Idealize.ShloMosaic.PureOps.Ideal
public import Idealize.ShloMosaic.Lib.Pointwise

@[expose] public section

noncomputable section

namespace Cert.Exponent

open Idealize.ShloMosaic

/-! ## The words compared against -/

/-- The value of the word whose exponent field is `k` and whose other bits are zero. -/
def power (k : ℕ) : EReal := Ideal.ofBits .f32 (IntOp.shli .vector (BitVec.ofNat 32 k) 23#32)

theorem word_fields : ∀ k : Fin 256,
    (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

/-- What a word with a zero sign and a zero fraction denotes, by its exponent field. -/
theorem ieee_fields (b : BitVec 32) (k : ℕ) (h1 : b.extractLsb' 31 1 = 0#1) (h2 : (b.extractLsb' 23 8).toNat = k)
    (h3 : (b.extractLsb' 0 23).toNat = 0) :
    Ideal.ieee 8 23 b = if k = 255 then ⊤ else if k = 0 then 0 else (((2 : ℝ) ^ ((k : ℤ) - 127) : ℝ) : EReal) := by
  simp only [Ideal.ieee, Nat.reduceAdd, h1, h2, h3]
  by_cases hk : k = 255
  · simp [hk]
  by_cases h0 : k = 0
  · simp [h0]
  have e : (8388608 : ℝ) * 2 ^ ((k : ℤ) - 127 - 23) = 2 ^ ((k : ℤ) - 127) := by
    rw [show (8388608 : ℝ) = (2 : ℝ) ^ (23 : ℤ) by norm_num, ← zpow_add₀ (by norm_num : (2 : ℝ) ≠ 0)]
    congr 1
    ring
  norm_num [hk, h0]
  exact_mod_cast congrArg (fun r : ℝ => (r : EReal)) e

theorem power_value (k : ℕ) (hk : k < 256) :
    power k = if k = 255 then ⊤ else if k = 0 then 0 else (((2 : ℝ) ^ ((k : ℤ) - 127) : ℝ) : EReal) := by
  obtain ⟨h1, h2, h3⟩ := word_fields ⟨k, hk⟩
  exact ieee_fields _ k h1 h2 h3

theorem power_zero : power 0 = 0 := (power_value 0 (by norm_num)).trans (by norm_num)

theorem power_top : power 255 = ⊤ := (power_value 255 (by norm_num)).trans (by norm_num)

theorem power_eq (k : ℕ) (h0 : 0 < k) (h1 : k < 255) : power k = (((2 : ℝ) ^ ((k : ℤ) - 127) : ℝ) : EReal) := by
  rw [power_value k (by omega), if_neg (by omega), if_neg (by omega)]

/-! ## The search -/

/-- One step of the search: keep the bit `b` if the power it gives is not above the value. -/
def step (v : EReal) (e b : BitVec 32) : BitVec 32 :=
  if Ideal.ofBits .f32 (IntOp.shli .vector (IntOp.addi e b) 23#32) ≤ v then IntOp.addi e b else e

/-- What holds between the steps: the power of the field found is at most `v`, that of `w` more is above it. -/
def Found (v : EReal) (e : BitVec 32) (w : ℕ) : Prop :=
  ∃ k : ℕ, e = BitVec.ofNat 32 k ∧ k + w ≤ 256 ∧ power k ≤ v ∧ (k + w = 256 ∨ v < power (k + w))

theorem found_step (v : EReal) (e : BitVec 32) (c : ℕ) (h : Found v e (2 * c)) : Found v (step v e (BitVec.ofNat 32 c)) c := by
  obtain ⟨k, rfl, hk, hle, hlt⟩ := h
  have hadd : IntOp.addi (BitVec.ofNat 32 k) (BitVec.ofNat 32 c) = BitVec.ofNat 32 (k + c) := by
    show BitVec.ofNat 32 k + BitVec.ofNat 32 c = _
    rw [BitVec.ofNat_add]
  unfold step
  rw [hadd]
  by_cases hp : Ideal.ofBits .f32 (IntOp.shli .vector (BitVec.ofNat 32 (k + c)) 23#32) ≤ v
  · rw [if_pos hp]
    refine ⟨k + c, rfl, by omega, hp, ?_⟩
    rwa [show k + c + c = k + 2 * c by ring]
  · rw [if_neg hp]
    exact ⟨k, rfl, by omega, hle, Or.inr (not_le.mp hp)⟩

/-- The first three steps. -/
def search3 (v : EReal) : BitVec 32 := step v (step v (step v 0#32 128#32) 64#32) 32#32

/-- The last five steps. -/
def search5 (v : EReal) (e : BitVec 32) : BitVec 32 :=
  step v (step v (step v (step v (step v e 16#32) 8#32) 4#32) 2#32) 1#32

theorem found (v : EReal) (hv : 0 ≤ v) : Found v (search5 v (search3 v)) 1 := by
  have h0 : Found v 0#32 (2 * 128) := ⟨0, rfl, by norm_num, by rw [power_zero]; exact hv, Or.inl rfl⟩
  exact found_step v _ 1 (found_step v _ 2 (found_step v _ 4 (found_step v _ 8 (found_step v _ 16 (found_step v _ 32
    (found_step v _ 64 (found_step v _ 128 h0)))))))

/-- The exponent the kernel takes from the field found. -/
def ofField (e : BitVec 32) : BitVec 32 :=
  Scalar.select (IntOp.andi (IntOp.cmpi .sgt e 0#32) (IntOp.cmpi .slt e 255#32)) (IntOp.subi e 126#32) 0#32

theorem ofField_words : ∀ k : Fin 253,
    IntOp.addi 127#32 (ofField (BitVec.ofNat 32 k.val)) = BitVec.ofNat 32 (if k.val = 0 then 127 else k.val + 1)
    ∧ IntOp.subi 127#32 (ofField (BitVec.ofNat 32 k.val)) = BitVec.ofNat 32 (if k.val = 0 then 127 else 253 - k.val) := by
  decide +kernel

/-- The kernel's scale and its inverse, of the value `v`. -/
def scaleWord (v : EReal) : EReal :=
  Ideal.ofBits .f32 (IntOp.shli .vector (IntOp.addi 127#32 (ofField (search5 v (search3 v)))) 23#32)
def invWord (v : EReal) : EReal :=
  Ideal.ofBits .f32 (IntOp.shli .vector (IntOp.subi 127#32 (ofField (search5 v (search3 v)))) 23#32)

/-! ## The logarithm -/

/-- The reference's exponent: the floor of the logarithm to base two, plus one; 0 below the least normal number. -/
def ofLog (v : EReal) : EReal :=
  if Ideal.ofBits .f32 0x00800000#32 ≤ v then
    Ideal.liftRound Int.floor (Ideal.div (Ideal.log v) ((Real.log 2 : ℝ) : EReal)) + 1
  else 0

theorem least_normal : Ideal.ofBits .f32 0x00800000#32 = power 1 := rfl

theorem ofLog_small (v : EReal) (h : v < power 1) : ofLog v = 0 := if_neg (by rw [least_normal]; exact not_le.mpr h)

/-- Between consecutive powers of two the reference's exponent is the greater one's. -/
theorem ofLog_between (r : ℝ) (n : ℤ) (hn : -126 ≤ n) (h0 : (2 : ℝ) ^ n ≤ r) (h1 : r < (2 : ℝ) ^ (n + 1)) :
    ofLog (r : EReal) = (((n + 1 : ℤ) : ℝ) : EReal) := by
  have hr : 0 < r := lt_of_lt_of_le (by positivity) h0
  have hl : 0 < Real.log 2 := Real.log_pos (by norm_num)
  unfold ofLog
  rw [if_pos]
  · have hlog : Ideal.log (r : EReal) = (Real.log r : EReal) := if_neg (not_le.mpr hr)
    have hfl : ⌊Real.log r * (Real.log 2)⁻¹⌋ = n := by
      rw [← div_eq_mul_inv, Int.floor_eq_iff]
      constructor
      · rw [le_div_iff₀ hl, ← Real.log_zpow]
        exact Real.log_le_log (by positivity) h0
      · rw [div_lt_iff₀ hl]
        have := Real.log_lt_log hr h1
        rw [Real.log_zpow] at this
        push_cast at this
        exact this
    rw [hlog]
    unfold Ideal.div
    rw [if_neg (by exact_mod_cast hl.ne'), ← EReal.coe_inv, ← EReal.coe_mul]
    show ((⌊Real.log r * (Real.log 2)⁻¹⌋ : ℝ) : EReal) + 1 = _
    rw [hfl]
    push_cast
    rfl
  · rw [least_normal, power_eq 1 (by norm_num) (by norm_num), EReal.coe_le_coe_iff]
    exact le_trans (zpow_le_zpow_right₀ (by norm_num) (by norm_num; exact hn)) h0

theorem exp2_int (n : ℤ) : Ideal.exp2 ((n : ℝ) : EReal) = (((2 : ℝ) ^ n : ℝ) : EReal) := by
  show ((Real.rpow 2 (n : ℝ) : ℝ) : EReal) = _
  exact congrArg _ (Real.rpow_intCast 2 n)

theorem zero_sub_int (n : ℤ) : (0 : EReal) - ((n : ℝ) : EReal) = (((-n : ℤ) : ℝ) : EReal) := by
  rw [← EReal.coe_zero, ← EReal.coe_sub, zero_sub, Int.cast_neg]

theorem exp2_zero : Ideal.exp2 0 = 1 := by
  have := exp2_int 0
  simpa using this

/-! ## The two agree -/

theorem power_mono {a b : ℕ} (ha : 0 < a) (hab : a ≤ b) (hb : b < 255) : power a ≤ power b := by
  rw [power_eq a ha (by omega), power_eq b (by omega) hb, EReal.coe_le_coe_iff]
  exact zpow_le_zpow_right₀ (by norm_num) (by omega)

/-- The field found, for a value below 2^126. -/
theorem found_small (v : EReal) (hv : 0 ≤ v) (hb : v < power 253) :
    ∃ k : Fin 253, search5 v (search3 v) = BitVec.ofNat 32 k.val ∧ power k.val ≤ v ∧ v < power (k.val + 1) := by
  obtain ⟨k, he, hk, hle, hlt⟩ := found v hv
  have hk253 : k < 253 := by
    by_contra hc
    rcases Nat.lt_or_ge k 255 with h | h
    · exact absurd (lt_of_le_of_lt hle hb) (not_lt.mpr (power_mono (by norm_num) (by omega) h))
    · have : k = 255 := by omega
      subst this
      rw [power_top] at hle
      exact absurd hb (not_lt.mpr (le_trans le_top hle))
  refine ⟨⟨k, hk253⟩, he, hle, ?_⟩
  rcases hlt with h | h
  · omega
  · exact h

/-- The kernel's scale and inverse are the reference's powers of two. -/
theorem words_eq (v : EReal) (hv : 0 ≤ v) (hb : v < power 253) :
    scaleWord v = Ideal.exp2 (ofLog v) ∧ invWord v = Ideal.exp2 (0 - ofLog v) := by
  obtain ⟨k, he, hle, hlt⟩ := found_small v hv hb
  obtain ⟨hs, hi⟩ := ofField_words k
  unfold scaleWord invWord
  rw [he, hs, hi]
  show power _ = _ ∧ power _ = _
  by_cases h0 : k.val = 0
  · rw [if_pos h0, if_pos h0, ofLog_small v (by rw [h0] at hlt; exact hlt), power_eq 127 (by norm_num) (by norm_num)]
    norm_num [exp2_zero]
  · have hk := k.isLt
    rw [if_neg h0, if_neg h0, power_eq _ (by omega) (by omega), power_eq _ (by omega) (by omega)]
    rw [power_eq _ (by omega) (by omega)] at hle hlt
    obtain ⟨r, rfl⟩ : ∃ r : ℝ, v = (r : EReal) := by
      induction v with
      | bot => simp at hv
      | top => simp at hlt
      | coe r => exact ⟨r, rfl⟩
    rw [EReal.coe_le_coe_iff] at hle
    rw [EReal.coe_lt_coe_iff] at hlt
    have hl := ofLog_between r ((k.val : ℤ) - 127) (by omega) hle (by
      rw [show ((k.val : ℤ) - 127 + 1) = ((k.val + 1 : ℕ) : ℤ) - 127 by push_cast; ring]; exact hlt)
    rw [hl]
    constructor
    · rw [exp2_int]
      congr 2
      push_cast
      ring
    · rw [zero_sub_int, exp2_int]
      congr 2
      omega

end Cert.Exponent

end
-- ==== Proof.RowBound.lean ====
/- One row of the normalisation: the normalised and scaled elements, their greatest magnitude over the largest code, and the
   bound that finite gammas put on it, whatever the row is. -/
module

public import Idealize.ShloMosaic.PureOps.Ideal
public import Idealize.ShloMosaic.Lib.Pointwise
public import proofs.«01_k».proof.Proof.Exponent

@[expose] public section

noncomputable section

namespace Cert.Row

open Idealize.ShloMosaic
open scoped BigOperators

/-- The row's mean square plus epsilon. -/
def spread (x : Fin 2560 → EReal) : EReal :=
  (∑ j, x j * x j) * ((1 / 2560 : ℝ) : EReal) + Ideal.ofBits .f32 0x358637BD#32

/-- The normalised row, times gamma. -/
def normed (x g : Fin 2560 → EReal) (k : Fin 2560) : EReal := x k * Ideal.rsqrt (spread x) * g k

/-- The row's greatest magnitude over the largest code. -/
def peak (x g : Fin 2560 → EReal) : EReal :=
  Finset.univ.fold max (Ideal.ofBits .f32 0xFF800000#32) (fun k => max (normed x g k) (-(normed x g k)))
    * Ideal.ofBits .f32 0x37924925#32

/-! ## The constants -/

/-- What a positive normal word denotes, by its fields. -/
theorem ieee_normal (e m : ℕ) {w : ℕ} (b : BitVec w) (ex fr : ℕ) (h1 : b.extractLsb' (e + m) 1 = 0#1)
    (h2 : (b.extractLsb' m e).toNat = ex) (h3 : (b.extractLsb' 0 m).toNat = fr) (hne : ex ≠ 2 ^ e - 1) (h0 : ex ≠ 0) :
    Ideal.ieee e m b = (((2 ^ m + fr : ℕ) * (2 : ℝ) ^ ((ex : ℤ) - (2 ^ (e - 1) - 1) - m) : ℝ) : EReal) := by
  simp only [Ideal.ieee, h1, h2, h3, if_neg hne, if_neg h0]
  norm_num

theorem eps_value : Ideal.ofBits .f32 0x358637BD#32 = ((8796093 * (2 : ℝ) ^ (-43 : ℤ) : ℝ) : EReal) := by
  refine (ieee_normal 8 23 (0x358637BD#32) 107 407485 (by decide) (by decide) (by decide) (by decide) (by decide)).trans ?_
  norm_num

theorem coef_value : Ideal.ofBits .f32 0x37924925#32 = ((9586981 * (2 : ℝ) ^ (-39 : ℤ) : ℝ) : EReal) := by
  refine (ieee_normal 8 23 (0x37924925#32) 111 1198373 (by decide) (by decide) (by decide) (by decide) (by decide)).trans ?_
  norm_num

theorem width_value : Ideal.ofBits .f32 0x45200000#32 = ((2560 : ℝ) : EReal) := by
  refine (ieee_normal 8 23 (0x45200000#32) 138 2097152 (by decide) (by decide) (by decide) (by decide) (by decide)).trans ?_
  norm_num

theorem largest_value : Ideal.ofBits .bf16 0x7F7F#16 = ((255 * (2 : ℝ) ^ (120 : ℤ) : ℝ) : EReal) := by
  refine (ieee_normal 8 7 (0x7F7F#16) 254 127 (by decide) (by decide) (by decide) (by decide) (by decide)).trans ?_
  norm_num

theorem neg_inf : Ideal.ofBits .f32 0xFF800000#32 = ⊥ := by
  have h1 : (0xFF800000#32).extractLsb' 31 1 = 1#1 := by decide
  have h2 : ((0xFF800000#32).extractLsb' 23 8).toNat = 255 := by decide
  have h3 : ((0xFF800000#32).extractLsb' 0 23).toNat = 0 := by decide
  show Ideal.ieee 8 23 (0xFF800000#32) = ⊥
  simp only [Ideal.ieee, Nat.reduceAdd, h1, h2, h3]
  norm_num

/-! ## The bound -/

theorem coe_sum {n : ℕ} (r : Fin n → ℝ) : (∑ j, ((r j : ℝ) : EReal)) = ((∑ j, r j : ℝ) : EReal) := by
  induction n with
  | zero => simp
  | succ n ih => rw [Fin.sum_univ_succ, Fin.sum_univ_succ, ih, EReal.coe_add]

theorem mul_self_nonneg' (x : EReal) : 0 ≤ x * x := by
  induction x with
  | bot => simp
  | top => simp
  | coe r => rw [← EReal.coe_mul]; exact_mod_cast mul_self_nonneg r

/-- A row with an infinite element spreads infinitely. -/
theorem spread_top (x : Fin 2560 → EReal) (k : Fin 2560) (h : x k * x k = ⊤) : spread x = ⊤ := by
  have hs : ∑ j, x j * x j = ⊤ := by
    refine top_le_iff.mp ?_
    rw [← h]
    exact Finset.single_le_sum (f := fun j => x j * x j) (fun j _ => mul_self_nonneg' (x j)) (Finset.mem_univ k)
  unfold spread
  rw [hs, EReal.top_mul_coe_of_pos (by norm_num), eps_value, EReal.top_add_coe]

/-- The elements are real and bounded, whatever the row, if gamma is. -/
theorem normed_bound (x g : Fin 2560 → EReal) (hg : ∀ k, ∃ r : ℝ, g k = (r : EReal) ∧ |r| ≤ 2 ^ 128) (k : Fin 2560) :
    ∃ r : ℝ, normed x g k = (r : EReal) ∧ |r| ≤ 2 ^ 134 := by
  obtain ⟨γ, hγ, hγb⟩ := hg k
  by_cases hx : ∀ j, ∃ r : ℝ, x j = (r : EReal)
  · choose r hr using hx
    have hsum : ∑ j, x j * x j = ((∑ j, r j * r j : ℝ) : EReal) := by
      rw [← coe_sum]
      exact Finset.sum_congr rfl fun j _ => by rw [hr, EReal.coe_mul]
    obtain ⟨s, hs0, hs1, hs⟩ : ∃ s : ℝ, 0 < s ∧ (∑ j, r j * r j) ≤ 4096 * s ∧ spread x = (s : EReal) := by
      have hnn : 0 ≤ ∑ j, r j * r j := Finset.sum_nonneg fun j _ => mul_self_nonneg (r j)
      refine ⟨(∑ j, r j * r j) * (1 / 2560) + 8796093 * (2 : ℝ) ^ (-43 : ℤ), by positivity, ?_, ?_⟩
      · have : (0 : ℝ) < 8796093 * (2 : ℝ) ^ (-43 : ℤ) := by positivity
        linarith
      · unfold spread
        rw [hsum, eps_value, ← EReal.coe_mul, ← EReal.coe_add]
    have hrs : Ideal.rsqrt (s : EReal) = (((Real.sqrt s)⁻¹ : ℝ) : EReal) := by
      show (if s < 0 then ⊥ else if s = 0 then ⊤ else (((Real.sqrt s)⁻¹ : ℝ) : EReal)) = _
      rw [if_neg (by linarith), if_neg hs0.ne']
    refine ⟨r k * (Real.sqrt s)⁻¹ * γ, ?_, ?_⟩
    · unfold normed
      rw [hs, hrs, hr, hγ, EReal.coe_mul, EReal.coe_mul]
    · have hq : 0 < Real.sqrt s := Real.sqrt_pos.mpr hs0
      have hk : |r k| ≤ 64 * Real.sqrt s := by
        have h1 : r k ^ 2 ≤ 4096 * s := by
          rw [pow_two]
          exact le_trans (Finset.single_le_sum (f := fun j => r j * r j) (fun j _ => mul_self_nonneg (r j)) (Finset.mem_univ k)) hs1
        refine (Real.abs_le_sqrt h1).trans (le_of_eq ?_)
        rw [show (4096 : ℝ) * s = 64 ^ 2 * s by norm_num, Real.sqrt_mul (by positivity), Real.sqrt_sq (by norm_num)]
      rw [abs_mul, abs_mul, abs_inv, abs_of_pos hq]
      have h64 : |r k| * (Real.sqrt s)⁻¹ ≤ 64 := by
        rw [← div_eq_mul_inv, div_le_iff₀ hq]
        exact hk
      calc |r k| * (Real.sqrt s)⁻¹ * |γ| ≤ 64 * 2 ^ 128 := mul_le_mul h64 hγb (abs_nonneg _) (by norm_num)
        _ = 2 ^ 134 := by norm_num
  · obtain ⟨j, hj⟩ := not_forall.mp hx
    have htop : x j * x j = ⊤ := by
      induction hxj : x j with
      | bot => simp
      | top => simp
      | coe r => exact absurd ⟨r, hxj⟩ hj
    refine ⟨0, ?_, by norm_num⟩
    unfold normed
    rw [spread_top x j htop]
    show x k * 0 * g k = _
    simp

/-- The peak of any row is nonnegative and well below 2^126. -/
theorem peak_bound (x g : Fin 2560 → EReal) (hg : ∀ k, ∃ r : ℝ, g k = (r : EReal) ∧ |r| ≤ 2 ^ 128) :
    0 ≤ peak x g ∧ peak x g < Exponent.power 253 := by
  have hn := normed_bound x g hg
  unfold peak
  generalize hM : Finset.univ.fold max (Ideal.ofBits .f32 0xFF800000#32) (fun k => max (normed x g k) (-(normed x g k))) = M
  have hM0 : 0 ≤ M := by
    rw [← hM, Finset.le_fold_max]
    refine Or.inr ⟨0, Finset.mem_univ _, ?_⟩
    obtain ⟨r, hr, -⟩ := hn 0
    rw [hr, ← EReal.coe_neg, le_max_iff]
    rcases le_total 0 r with h | h
    · exact Or.inl (by exact_mod_cast h)
    · exact Or.inr (by exact_mod_cast (neg_nonneg.mpr h))
  have hM1 : M ≤ ((2 ^ 134 : ℝ) : EReal) := by
    rw [← hM, Finset.fold_max_le]
    refine ⟨by rw [neg_inf]; exact bot_le, fun k _ => ?_⟩
    obtain ⟨r, hr, hb⟩ := hn k
    rw [hr, ← EReal.coe_neg]
    exact max_le (EReal.coe_le_coe_iff.mpr ((le_abs_self r).trans hb)) (EReal.coe_le_coe_iff.mpr ((neg_le_abs r).trans hb))
  obtain ⟨q, rfl⟩ : ∃ q : ℝ, M = (q : EReal) := by
    induction M using EReal.rec with
    | bot => simp at hM0
    | top => exact absurd (top_le_iff.mp hM1) (EReal.coe_ne_top _)
    | coe q => exact ⟨q, rfl⟩
  rw [EReal.coe_le_coe_iff] at hM1
  have hq : 0 ≤ q := by exact_mod_cast hM0
  rw [coef_value, ← EReal.coe_mul, Exponent.power_eq 253 (by norm_num) (by norm_num), EReal.coe_lt_coe_iff]
  refine ⟨by exact_mod_cast mul_nonneg hq (by positivity), ?_⟩
  calc q * (9586981 * (2 : ℝ) ^ (-39 : ℤ)) ≤ 2 ^ 134 * (9586981 * (2 : ℝ) ^ (-39 : ℤ)) := mul_le_mul_of_nonneg_right hM1 (by positivity)
    _ < (2 : ℝ) ^ (((253 : ℕ) : ℤ) - 127) := by norm_num

end Cert.Row

end
-- ==== Proof.Precondition.lean ====
/- What the precondition says: every gamma is a real number of magnitude at most the greatest finite bf16. -/
module

public import proofs.«01_k».proof.Pre_gamma_finite
public import proofs.«01_k».proof.Proof.RowBound
public import Idealize.ShloMosaic.Lib.Pointwise
public import Idealize.ShloMosaic.Lib.Affine

@[expose] public section

noncomputable section

namespace Cert.Pre_gamma_finite.Hand

open Cert.Pre_gamma_finite
open Idealize.ShloMosaic Idealize.ShloMosaic.Tactic

/-- The side conditions the predicate's operations take. -/
instance facts : Facts where
  bcast_S_S2560 := by decide
  reducesTo_S2560_S_d0 := by decide
  h_S_ := by decide

/-- A conjunction of bits folded from 1 is 1 only if every bit is. -/
theorem fold_andi {n : ℕ} (f : Fin n → BitVec 1) (s : Finset (Fin n)) (h : s.fold IntOp.andi 1#1 f = 1#1) : ∀ k ∈ s, f k = 1#1 := by
  induction s using Finset.induction with
  | empty => simp
  | insert a s ha ih =>
    rw [Finset.fold_insert ha, IntOp.andi_eq_one] at h
    intro k hk
    rcases Finset.mem_insert.mp hk with rfl | hk
    · exact h.1
    · exact ih h.2 k hk

theorem gamma_bounded (x : FVec Ideal S4x1536x2560 .bf16) (g : FVec Ideal S2560 .bf16) (W : FVec Ideal S18688x2560 .fp8e4m3) (s : FVec Ideal S18688 .f32)
    (h : fn (F := Ideal) x g W s = fun _ => 1#1) (k : Fin 2560) : ∃ r : ℝ, (g (ix1 k) : EReal) = (r : EReal) ∧ |r| ≤ 2 ^ 128 := by
  have h0 : fn (F := Ideal) x g W s (fun a => a.elim0) = 1#1 := congrFun h _
  revert h0
  pointwise [fn]
  intro h0
  have hk := fold_andi _ _ h0 k (Finset.mem_univ k)
  have hle : max (g (ix1 k) : EReal) (-(g (ix1 k) : EReal)) ≤ Ideal.ofBits FTy.bf16 0x7F7F#16 := by
    by_contra hc
    have : decide (FloatOps.absf (g (ix1 k)) ≤ Ideal.ofBits FTy.bf16 0x7F7F#16) = false := decide_eq_false hc
    rw [this] at hk
    exact absurd hk (by decide)
  rw [Row.largest_value] at hle
  generalize (g (ix1 k) : EReal) = γ at hle
  induction γ using EReal.rec with
  | bot => exact absurd (top_le_iff.mp (le_trans (le_of_eq EReal.neg_bot.symm) ((le_max_right _ _).trans hle))) (EReal.coe_ne_top _)
  | top => exact absurd (top_le_iff.mp ((le_max_left _ _).trans hle)) (EReal.coe_ne_top _)
  | coe r =>
    refine ⟨r, rfl, ?_⟩
    have h1 : r ≤ 255 * (2 : ℝ) ^ (120 : ℤ) := EReal.coe_le_coe_iff.mp ((le_max_left _ _).trans hle)
    have h2 : -r ≤ 255 * (2 : ℝ) ^ (120 : ℤ) := EReal.coe_le_coe_iff.mp ((le_max_right _ _).trans hle)
    refine (abs_le'.mpr ⟨h1, h2⟩).trans ?_
    norm_num

end Cert.Pre_gamma_finite.Hand

end
-- ==== Proof.KernelIdealLoop.lean ====
/- What the quantiser's loop leaves: every trip stores one chunk of 32 rows of codes and of scales, so that after the 64
   trips both buffers hold, row by row, the payload of the row's chunk. -/
module

public import proofs.«01_k».proof.Proof.Gen.KernelIdeal.Loops
public import proofs.«01_k».proof.Proof.Gen.KernelIdeal.Skeleton
public import Idealize.ShloMosaic.Lib.Pointwise.Index
public import Idealize.ShloMosaic.Lib.ValueIdx
public import Idealize.ShloMosaic.Lib.WritesUnit
public import Idealize.ShloMosaic.Lib.Pipeline.Value
public import Idealize.ShloMosaic.Lib.Claim

@[expose] public section

-- the accesses' rectangles have production extents: the elaborator's structural look at a membership recurses once per coordinate
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The codes of one chunk of 32 rows: the printed payloads composed. -/
def codesChunk (x1 : Vec F S1x2560 .bf16) (x : Vec F S32x2560 .bf16) : FVec F S32x2560 .fp8e5m2 :=
  k0_pay3 (k0_pay5 (k0_pay1 x1) x) (k0_pay8 (k0_pay6 (k0_pay1 x1) x) (k0_pay7 (k0_pay1 x1) x))

/-- The scales of one chunk of 32 rows. -/
def scaleChunk (x1 : Vec F S1x2560 .bf16) (x : Vec F S32x2560 .bf16) : FVec F S32x1 .f32 :=
  k0_pay2 (F := F) (k0_pay8 (k0_pay6 (k0_pay1 x1) x) (k0_pay7 (k0_pay1 x1) x)) k0_pay9

theorem trips_eq : k0_t1_loop.trips = 64 := by decide +kernel

theorem off1_eq : ∀ k : Fin k0_t1_loop.trips, k0_off1 k = ![32 * k.val, 0] := by decide +kernel

theorem off2_eq : ∀ k : Fin k0_t1_loop.trips, k0_off2 k = ![32 * k.val, 0] := by decide +kernel

/-- Rows `[32 q, 32 q + 32)` of a block of 2048 rows. -/
def chunk (x0 : Vec F S2048x2560 .bf16) (q : Fin 64) : Vec F S32x2560 .bf16 :=
  fun z => x0 (ix2 (⟨32 * q.val + (z 0).val, by have := idx2_lt0 z; have := q.isLt; omega⟩ : Fin 2048) (z 1 : Fin 2560))

/-- The codes of a block of 2048 rows: row `r` is row `r % 32` of chunk `r / 32`. -/
def codesBlock (x0 : Vec F S2048x2560 .bf16) (x1 : Vec F S1x2560 .bf16) : Vec F S2048x2560 .fp8e5m2 :=
  fun y => codesChunk x1 (chunk x0 ⟨(y 0).val / 32, by have := idx2_lt0 y; omega⟩)
    (ix2 (⟨(y 0).val % 32, Nat.mod_lt _ (by norm_num)⟩ : Fin 32) (y 1 : Fin 2560))

/-- The scales of a block of 2048 rows. -/
def scaleBlock (x0 : Vec F S2048x2560 .bf16) (x1 : Vec F S1x2560 .bf16) : Vec F S2048x1 .f32 :=
  fun y => scaleChunk x1 (chunk x0 ⟨(y 0).val / 32, by have := idx2_lt0 y; omega⟩)
    (ix2 (⟨(y 0).val % 32, Nat.mod_lt _ (by norm_num)⟩ : Fin 32) (y 1 : Fin 1))

section Loop

variable (𝒱 : Variants) (c : Dev nD) (bd : Option 𝒱.V) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (k0_h1 : k0_cond1 i = 1#1) (v17 : Vec F S1x2560 .bf16) (X : BufTy.Contents (Elt F) arg2.view.ty)

/-- One trip's pieces: its chunk of codes and its chunk of scales. -/
theorem trip_pieces (k : Fin k0_t1_loop.trips) :
    tripL_k0_t1 (F := F) 𝒱 c bd i arg2 harg2 arg3 harg3 arg4 harg4 arg5 harg5 arg6 harg6 arg7 harg7 arg8 harg8 k0_h1 v17 X k
      = ([⟨Rect.unit (s := S2048x2560) (k0_off1 k) S32x2560.size (k0_off1_inb i k k0_h1),
            codesChunk v17 (View.ld (arg2.view.read (Elt F) X) (Rect.unit (s := S2048x2560) (k0_off1 k) S32x2560.size (k0_off1_inb i k k0_h1)))⟩],
         [⟨Rect.unit (s := S2048x1) (k0_off2 k) S32x1.size (k0_off2_inb i k k0_h1),
            scaleChunk v17 (View.ld (arg2.view.read (Elt F) X) (Rect.unit (s := S2048x2560) (k0_off1 k) S32x2560.size (k0_off1_inb i k k0_h1)))⟩]) := by
  unfold tripL_k0_t1 trip_k0_t1
  dsimp only
  sl_unfold_words
  rfl

/-- A chunk as the trip loads it. -/
theorem ld_chunk (x0 : Vec F S2048x2560 .bf16) (k : Fin k0_t1_loop.trips) (q : Fin 64) (hq : q.val = k.val) :
    View.ld x0 (Rect.unit (s := S2048x2560) (k0_off1 k) S32x2560.size (k0_off1_inb i k k0_h1)) = chunk x0 q := by
  funext z
  refine congrArg x0 (funext fun a => Fin.ext ?_)
  have h := congrFun (off1_eq k)
  match a with
  | ⟨0, _⟩ => exact (by have := h 0; show k0_off1 k 0 + 1 * (z 0).val = 32 * q.val + (z 0).val; rw [this, hq, one_mul]; rfl)
  | ⟨1, _⟩ => exact (by have := h 1; show k0_off1 k 1 + 1 * (z 1).val = (z 1).val; rw [this, one_mul]; exact Nat.zero_add _)

/-- After the trips before `k`, the rows below `32 k` of the codes are the chunks'. -/
theorem read_codes (f : BufTy.Contents (Elt F) arg7.view.ty) (k : ℕ) (hk : k ≤ 64) (y : S2048x2560.Idx) (hy : (y 0).val < 32 * k) :
    arg7.view.read (Elt F) (arg7.view.writes (Elt F) f (pb_k0_t1 (F := F) 𝒱 c bd i arg2 harg2 arg3 harg3 arg4 harg4 arg5 harg5 arg6 harg6 arg7 harg7 arg8 harg8 k0_h1 v17 X k).1) y
      = codesBlock (arg2.view.read (Elt F) X) v17 y := by
  induction k with
  | zero => omega
  | succ k ih =>
    have hk' : k < k0_t1_loop.trips := by rw [trips_eq]; omega
    rw [show pb_k0_t1 (F := F) 𝒱 c bd i arg2 harg2 arg3 harg3 arg4 harg4 arg5 harg5 arg6 harg6 arg7 harg7 arg8 harg8 k0_h1 v17 X (k + 1) = _ from
      pb_k0_t1_succ 𝒱 c bd i arg2 harg2 arg3 harg3 arg4 harg4 arg5 harg5 arg6 harg6 arg7 harg7 arg8 harg8 k0_h1 v17 X ⟨k, hk'⟩, trip_pieces]
    dsimp only [List.cons_append, List.nil_append]
    refine (View.read_writes_cons_rows arg7.view f (size := S32x2560.size) (W := 32) (k0_off1_inb i ⟨k, hk'⟩ k0_h1) _ _ y (off1_eq ⟨k, hk'⟩) rfl rfl).trans ?_
    by_cases h : 32 * k ≤ (y 0).val ∧ (y 0).val < 32 * k + 32
    · rw [dif_pos h, ld_chunk i k0_h1 _ ⟨k, hk'⟩ ⟨(y 0).val / 32, by omega⟩ (show (y 0).val / 32 = k by omega)]
      refine congrArg _ (funext fun a => Fin.ext ?_)
      match a with
      | ⟨0, _⟩ => exact (show (y 0).val - 32 * k = (y 0).val % 32 by omega)
      | ⟨1, _⟩ => exact Nat.sub_zero _
    · rw [dif_neg h]
      exact ih (by omega) (by omega)

/-- After the trips before `k`, the rows below `32 k` of the scales are the chunks'. -/
theorem read_scale (f : BufTy.Contents (Elt F) arg8.view.ty) (k : ℕ) (hk : k ≤ 64) (y : S2048x1.Idx) (hy : (y 0).val < 32 * k) :
    arg8.view.read (Elt F) (arg8.view.writes (Elt F) f (pb_k0_t1 (F := F) 𝒱 c bd i arg2 harg2 arg3 harg3 arg4 harg4 arg5 harg5 arg6 harg6 arg7 harg7 arg8 harg8 k0_h1 v17 X k).2) y
      = scaleBlock (arg2.view.read (Elt F) X) v17 y := by
  induction k with
  | zero => omega
  | succ k ih =>
    have hk' : k < k0_t1_loop.trips := by rw [trips_eq]; omega
    rw [show pb_k0_t1 (F := F) 𝒱 c bd i arg2 harg2 arg3 harg3 arg4 harg4 arg5 harg5 arg6 harg6 arg7 harg7 arg8 harg8 k0_h1 v17 X (k + 1) = _ from
      pb_k0_t1_succ 𝒱 c bd i arg2 harg2 arg3 harg3 arg4 harg4 arg5 harg5 arg6 harg6 arg7 harg7 arg8 harg8 k0_h1 v17 X ⟨k, hk'⟩, trip_pieces]
    dsimp only [List.cons_append, List.nil_append]
    refine (View.read_writes_cons_rows arg8.view f (size := S32x1.size) (W := 32) (k0_off2_inb i ⟨k, hk'⟩ k0_h1) _ _ y (off2_eq ⟨k, hk'⟩) rfl rfl).trans ?_
    by_cases h : 32 * k ≤ (y 0).val ∧ (y 0).val < 32 * k + 32
    · rw [dif_pos h, ld_chunk i k0_h1 _ ⟨k, hk'⟩ ⟨(y 0).val / 32, by omega⟩ (show (y 0).val / 32 = k by omega)]
      refine congrArg _ (funext fun a => Fin.ext ?_)
      match a with
      | ⟨0, _⟩ => exact (show (y 0).val - 32 * k = (y 0).val % 32 by omega)
      | ⟨1, _⟩ => exact Nat.sub_zero _
    · rw [dif_neg h]
      exact ih (by omega) (by omega)

/-- After the loop the codes' buffer reads the block's codes, -/
theorem loop_codes (f : BufTy.Contents (Elt F) arg7.view.ty) :
    arg7.view.read (Elt F) (arg7.view.writes (Elt F) f (pb_k0_t1 (F := F) 𝒱 c bd i arg2 harg2 arg3 harg3 arg4 harg4 arg5 harg5 arg6 harg6 arg7 harg7 arg8 harg8 k0_h1 v17 X k0_t1_loop.trips).1)
      = codesBlock (arg2.view.read (Elt F) X) v17 :=
  funext fun y => read_codes 𝒱 c bd i arg2 harg2 arg3 harg3 arg4 harg4 arg5 harg5 arg6 harg6 arg7 harg7 arg8 harg8 k0_h1 v17 X f _ (by rw [trips_eq]) y (by rw [trips_eq]; exact idx2_lt0 y)

/-- and the scales' buffer its scales. -/
theorem loop_scale (f : BufTy.Contents (Elt F) arg8.view.ty) :
    arg8.view.read (Elt F) (arg8.view.writes (Elt F) f (pb_k0_t1 (F := F) 𝒱 c bd i arg2 harg2 arg3 harg3 arg4 harg4 arg5 harg5 arg6 harg6 arg7 harg7 arg8 harg8 k0_h1 v17 X k0_t1_loop.trips).2)
      = scaleBlock (arg2.view.read (Elt F) X) v17 :=
  funext fun y => read_scale 𝒱 c bd i arg2 harg2 arg3 harg3 arg4 harg4 arg5 harg5 arg6 harg6 arg7 harg7 arg8 harg8 k0_h1 v17 X f _ (by rw [trips_eq]) y (by rw [trips_eq]; exact idx2_lt0 y)

end Loop

end Cert.KernelIdeal.Hand

end
-- ==== Proof.KernelIdealTargets.lean ====
/- What the idealized kernel leaves in its three result arrays, as functions of the four argument arrays: the codes and the
   scales chunk of rows by chunk of rows, and the scaled products of the codes with the weights; and the blocks of these arrays. -/
module

public import proofs.«01_k».proof.Proof.KernelIdealLoop
public import proofs.«01_k».proof.Proof.Gen.KernelIdeal.Frame
public import Idealize.ShloMosaic.Lib.Pointwise
public import Idealize.ShloMosaic.Lib.Pipeline.ValueKit.Geometry

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.ValueIdx hiding ix2
open Idealize.ShloMosaic.Pipeline (Dat Cfg Window)

/-! ## The targets -/

/-- Rows `[32 q, 32 q + 32)` of the whole array. -/
def rowsA (X : Vec Ideal S6144x2560 .bf16) (q : Fin 192) : Vec Ideal S32x2560 .bf16 :=
  fun z => X (ix2 (⟨32 * q.val + (z 0).val, by have := idx2_lt0 z; have := q.isLt; omega⟩ : Fin 6144) (z 1 : Fin 2560))

/-- The codes of the whole array: row `r` is row `r % 32` of chunk `r / 32`. -/
def G5 (X : Vec Ideal S6144x2560 .bf16) (g : Vec Ideal S1x2560 .bf16) : Vec Ideal S6144x2560 .fp8e5m2 :=
  fun y => codesChunk (F := Ideal) g (rowsA X ⟨(y 0).val / 32, by have := idx2_lt0 y; omega⟩)
    (ix2 (⟨(y 0).val % 32, Nat.mod_lt _ (by norm_num)⟩ : Fin 32) (y 1 : Fin 2560))

/-- The scales of the whole array. -/
def G6 (X : Vec Ideal S6144x2560 .bf16) (g : Vec Ideal S1x2560 .bf16) : Vec Ideal S6144x1 .f32 :=
  fun y => scaleChunk (F := Ideal) g (rowsA X ⟨(y 0).val / 32, by have := idx2_lt0 y; omega⟩)
    (ix2 (⟨(y 0).val % 32, Nat.mod_lt _ (by norm_num)⟩ : Fin 32) (y 1 : Fin 1))

/-- The scaled products of the whole array. -/
def G4 (X : Vec Ideal S6144x2560 .bf16) (g : Vec Ideal S1x2560 .bf16) (W : Vec Ideal S18688x2560 .fp8e4m3) (s : Vec Ideal S1x18688 .f32) :
    Vec Ideal S6144x18688 .bf16 :=
  fun y => ((∑ k : Fin 2560, (G5 X g (ix2 (y 0 : Fin 6144) k) : EReal) * W (ix2 (y 1 : Fin 18688) k))
    * G6 X g (ix2 (y 0 : Fin 6144) (0 : Fin 1))) * s (ix2 (0 : Fin 1) (y 1 : Fin 18688))

/-- The stored block of products, read at an index. -/
theorem pay4_apply (C : Vec Ideal S2048x2560 .fp8e5m2) (W : Vec Ideal S1024x2560 .fp8e4m3) (S : Vec Ideal S2048x1 .f32) (s : Vec Ideal S1x1024 .f32)
    (y : S2048x1024.Idx) :
    k0_pay4 (F := Ideal) C W S s y = ((∑ k : Fin 2560, (C (ix2 (y 0 : Fin 2048) k) : EReal) * W (ix2 (y 1 : Fin 1024) k))
      * S (ix2 (y 0 : Fin 2048) (0 : Fin 1))) * s (ix2 (0 : Fin 1) (y 1 : Fin 1024)) := by
  pointwise [k0_pay4]

/-! ## The blocks -/

theorem index0 : ∀ t : Fin cfg0.N, win0_0.index t = ![t.val / 19, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 19, 0] := (by decide +kernel : ∀ t : Fin grid0.N, _)
theorem index3 : ∀ t : Fin cfg0.N, win0_3.index t = ![0, t.val % 19] := (by decide +kernel : ∀ t : Fin grid0.N, _)
theorem index4 : ∀ t : Fin cfg0.N, win0_4.index t = ![t.val / 19, t.val % 19] := (by decide +kernel : ∀ t : Fin grid0.N, _)
theorem index5 : ∀ t : Fin cfg0.N, win0_5.index t = ![t.val / 19, 0] := (by decide +kernel : ∀ t : Fin grid0.N, _)
theorem index6 : ∀ t : Fin cfg0.N, win0_6.index t = ![t.val / 19, 0] := (by decide +kernel : ∀ t : Fin grid0.N, _)

theorem row_lt (t : Fin cfg0.N) (r : Fin 2048) : 2048 * (t.val / 19) + r.val < 6144 := by
  have h : t.val < 57 := lt_of_lt_of_eq t.isLt (show cfg0.N = 57 from N_0)
  have := r.isLt
  omega

/-- Window 0's block at a point: the rows of its group of 2048. -/
theorem read_blk0 (t : Fin cfg0.N) (A : Vec Ideal S6144x2560 .bf16) (y : S2048x2560.Idx) :
    ((cfg0.win 0).blk t).view.read (Elt Ideal) A y = A (ix2 (⟨2048 * (t.val / 19) + (y 0).val, row_lt t (y 0)⟩ : Fin 6144) (y 1 : Fin 2560)) := by
  blk_simp
  refine congrArg A (funext fun a => Fin.ext ?_)
  match a with
  | ⟨0, _⟩ => exact (by show (((win0_0.blk t).view.emb y 0 : Fin _) : ℕ) = _; blk_simp [index0]; show _ = 2048 * (t.val / 19) + (y 0).val; omega)
  | ⟨1, _⟩ => exact (by show (((win0_0.blk t).view.emb y 1 : Fin _) : ℕ) = _; blk_simp [index0])

/-- Window 1's block is its whole array. -/
theorem read_blk1 (t : Fin cfg0.N) (A : Vec Ideal S1x2560 .bf16) :
    ((cfg0.win 1).blk t).view.read (Elt Ideal) A = A := by
  funext y
  blk_simp
  refine congrArg A (funext fun a => Fin.ext ?_)
  match a with
  | ⟨0, _⟩ => exact (by show (((win0_1.blk t).view.emb y 0 : Fin _) : ℕ) = _; blk_simp [index1])
  | ⟨1, _⟩ => exact (by show (((win0_1.blk t).view.emb y 1 : Fin _) : ℕ) = _; blk_simp [index1]; rfl)

/-- Window 5's block at a point: the rows of its group of 2048. -/
theorem read_blk5 (t : Fin cfg0.N) (A : Vec Ideal S6144x2560 .fp8e5m2) (y : S2048x2560.Idx) :
    ((cfg0.win 5).blk t).view.read (Elt Ideal) A y = A (ix2 (⟨2048 * (t.val / 19) + (y 0).val, row_lt t (y 0)⟩ : Fin 6144) (y 1 : Fin 2560)) := by
  blk_simp
  refine congrArg A (funext fun a => Fin.ext ?_)
  match a with
  | ⟨0, _⟩ => exact (by show (((win0_5.blk t).view.emb y 0 : Fin _) : ℕ) = _; blk_simp [index5]; show _ = 2048 * (t.val / 19) + (y 0).val; omega)
  | ⟨1, _⟩ => exact (by show (((win0_5.blk t).view.emb y 1 : Fin _) : ℕ) = _; blk_simp [index5])

/-- Window 6's block at a point: the rows of its group of 2048. -/
theorem read_blk6 (t : Fin cfg0.N) (A : Vec Ideal S6144x1 .f32) (y : S2048x1.Idx) :
    ((cfg0.win 6).blk t).view.read (Elt Ideal) A y = A (ix2 (⟨2048 * (t.val / 19) + (y 0).val, row_lt t (y 0)⟩ : Fin 6144) (y 1 : Fin 1)) := by
  blk_simp
  refine congrArg A (funext fun a => Fin.ext ?_)
  match a with
  | ⟨0, _⟩ => exact (by show (((win0_6.blk t).view.emb y 0 : Fin _) : ℕ) = _; blk_simp [index6]; show _ = 2048 * (t.val / 19) + (y 0).val; omega)
  | ⟨1, _⟩ => exact (by show (((win0_6.blk t).view.emb y 1 : Fin _) : ℕ) = _; blk_simp [index6])

/-- The codes of a point's group of rows are the group's rows of the codes. -/
theorem codesBlock_eq (t : Fin cfg0.N) (X : Vec Ideal S6144x2560 .bf16) (g : Vec Ideal S1x2560 .bf16) :
    codesBlock (F := Ideal) (((cfg0.win 0).blk t).view.read (Elt Ideal) X) g = ((cfg0.win 5).blk t).view.read (Elt Ideal) (G5 X g) := by
  funext y
  rw [read_blk5]
  have hy := idx2_lt0 y
  have ht : t.val < 57 := lt_of_lt_of_eq t.isLt (show cfg0.N = 57 from N_0)
  unfold codesBlock G5
  refine congrArg₂ (codesChunk (F := Ideal) g) (funext fun z => ?_) (funext fun a => Fin.ext ?_)
  · unfold chunk rowsA
    rw [read_blk0]
    refine congrArg X (congrArg₂ ix2 (Fin.ext ?_) rfl)
    show 2048 * (t.val / 19) + (32 * ((y 0).val / 32) + (z 0).val) = 32 * ((2048 * (t.val / 19) + (y 0).val) / 32) + (z 0).val
    omega
  · match a with
    | ⟨0, _⟩ => exact (by show (y 0).val % 32 = (2048 * (t.val / 19) + (y 0).val) % 32; omega)
    | ⟨1, _⟩ => rfl

/-- The scales of a point's group of rows are the group's rows of the scales. -/
theorem scaleBlock_eq (t : Fin cfg0.N) (X : Vec Ideal S6144x2560 .bf16) (g : Vec Ideal S1x2560 .bf16) :
    scaleBlock (F := Ideal) (((cfg0.win 0).blk t).view.read (Elt Ideal) X) g = ((cfg0.win 6).blk t).view.read (Elt Ideal) (G6 X g) := by
  funext y
  rw [read_blk6]
  have hy := idx2_lt0 y
  have ht : t.val < 57 := lt_of_lt_of_eq t.isLt (show cfg0.N = 57 from N_0)
  unfold scaleBlock G6
  refine congrArg₂ (scaleChunk (F := Ideal) g) (funext fun z => ?_) (funext fun a => Fin.ext ?_)
  · unfold chunk rowsA
    rw [read_blk0]
    refine congrArg X (congrArg₂ ix2 (Fin.ext ?_) rfl)
    show 2048 * (t.val / 19) + (32 * ((y 0).val / 32) + (z 0).val) = 32 * ((2048 * (t.val / 19) + (y 0).val) / 32) + (z 0).val
    omega
  · match a with
    | ⟨0, _⟩ => exact (by show (y 0).val % 32 = (2048 * (t.val / 19) + (y 0).val) % 32; omega)
    | ⟨1, _⟩ => rfl

/-! ## The blocks that overhang -/

theorem xsize2 : ∀ t : Fin cfg0.N, win0_2.xsize (grid0.coords t) = ![min 1024 (18688 - 1024 * (t.val % 19)), 2560] :=
  (by decide +kernel : ∀ t : Fin grid0.N, _)
theorem xsize3 : ∀ t : Fin cfg0.N, win0_3.xsize (grid0.coords t) = ![1, min 1024 (18688 - 1024 * (t.val % 19))] :=
  (by decide +kernel : ∀ t : Fin grid0.N, _)
theorem xsize4 : ∀ t : Fin cfg0.N, win0_4.xsize (grid0.coords t) = ![2048, min 1024 (18688 - 1024 * (t.val % 19))] :=
  (by decide +kernel : ∀ t : Fin grid0.N, _)

/-- What window 2's buffer holds inside the array. -/
theorem fill2_apply (t : Fin cfg0.N) (d : S1024x2560.Idx → Elt Ideal .fp8e4m3) (A : Vec Ideal S18688x2560 .fp8e4m3) (q : Fin 1024) (k : Fin 2560)
    (hq : 1024 * (t.val % 19) + q.val < 18688) :
    win0_2.fill (grid0.coords t) d (((cfg0.win 2).blk t).view.read (Elt Ideal) A) (ix2 q k) = A (ix2 (⟨1024 * (t.val % 19) + q.val, hq⟩ : Fin 18688) k) := by
  have hm : win0_2.moved (grid0.coords t) (ix2 q k) = true := by
    rw [Window.moved_iff]
    intro a
    rw [xsize2]
    match a with
    | ⟨0, _⟩ => exact (by show q.val < min 1024 (18688 - 1024 * (t.val % 19)); have := q.isLt; omega)
    | ⟨1, _⟩ => exact k.isLt
  unfold Window.fill
  rw [dif_pos hm]
  blk_simp
  refine congrArg A (funext fun a => Fin.ext ?_)
  match a with
  | ⟨0, _⟩ => exact (by show (((win0_2.blk t).view.emb _ 0 : Fin _) : ℕ) = 1024 * (t.val % 19) + q.val; blk_simp [index2]; show _ + q.val = _; omega)
  | ⟨1, _⟩ => exact (by show (((win0_2.blk t).view.emb _ 1 : Fin _) : ℕ) = k.val; blk_simp [index2])

/-- What window 3's buffer holds inside the array. -/
theorem fill3_apply (t : Fin cfg0.N) (d : S1x1024.Idx → Elt Ideal .f32) (A : Vec Ideal S1x18688 .f32) (q : Fin 1024)
    (hq : 1024 * (t.val % 19) + q.val < 18688) :
    win0_3.fill (grid0.coords t) d (((cfg0.win 3).blk t).view.read (Elt Ideal) A) (ix2 (0 : Fin 1) q) = A (ix2 (0 : Fin 1) (⟨1024 * (t.val % 19) + q.val, hq⟩ : Fin 18688)) := by
  have hm : win0_3.moved (grid0.coords t) (ix2 (0 : Fin 1) q) = true := by
    rw [Window.moved_iff]
    intro a
    rw [xsize3]
    match a with
    | ⟨0, _⟩ => exact Nat.one_pos
    | ⟨1, _⟩ => exact (by show q.val < min 1024 (18688 - 1024 * (t.val % 19)); have := q.isLt; omega)
  unfold Window.fill
  rw [dif_pos hm]
  blk_simp
  refine congrArg A (funext fun a => Fin.ext ?_)
  match a with
  | ⟨0, _⟩ => exact (by show (((win0_3.blk t).view.emb _ 0 : Fin _) : ℕ) = 0; blk_simp [index3]; rfl)
  | ⟨1, _⟩ => exact (by show (((win0_3.blk t).view.emb _ 1 : Fin _) : ℕ) = 1024 * (t.val % 19) + q.val; blk_simp [index3]; show _ + q.val = _; omega)

theorem col_lt (t : Fin cfg0.N) (j : (win0_4.xblock (grid0.coords t)).Idx) : (j 1).val < 1024 ∧ 1024 * (t.val % 19) + (j 1).val < 18688 := by
  have h : (j 1).val < win0_4.xsize (grid0.coords t) 1 := (j 1).isLt
  rw [xsize4] at h
  have h' : (j 1).val < min 1024 (18688 - 1024 * (t.val % 19)) := h
  omega

theorem row4_lt (t : Fin cfg0.N) (j : (win0_4.xblock (grid0.coords t)).Idx) : (j 0).val < 2048 := by
  have h : (j 0).val < win0_4.xsize (grid0.coords t) 0 := (j 0).isLt
  rw [xsize4] at h
  exact h

/-- Window 4's block at a point. -/
theorem read_blk4 (t : Fin cfg0.N) (A : Vec Ideal S6144x18688 .bf16) (j : (win0_4.xblock (grid0.coords t)).Idx) :
    ((cfg0.win 4).blk t).view.read (Elt Ideal) A j
      = A (ix2 (⟨2048 * (t.val / 19) + (j 0).val, row_lt t ⟨_, row4_lt t j⟩⟩ : Fin 6144) (⟨1024 * (t.val % 19) + (j 1).val, (col_lt t j).2⟩ : Fin 18688)) := by
  blk_simp
  refine congrArg A (funext fun a => Fin.ext ?_)
  match a with
  | ⟨0, _⟩ => exact (by show (((win0_4.blk t).view.emb j 0 : Fin _) : ℕ) = _; blk_simp [index4]; show _ = 2048 * (t.val / 19) + (j 0).val; omega)
  | ⟨1, _⟩ => exact (by show (((win0_4.blk t).view.emb j 1 : Fin _) : ℕ) = _; blk_simp [index4]; show _ = 1024 * (t.val % 19) + (j 1).val; omega)

/-- Inside the array, the block of products a point stores does not depend on what lies beyond the array's end in the weights'
    and their scales' buffers: it is the block of the whole array's products. -/
theorem products_cut (t : Fin cfg0.N) (X : Vec Ideal S6144x2560 .bf16) (g : Vec Ideal S1x2560 .bf16) (W : Vec Ideal S18688x2560 .fp8e4m3) (s : Vec Ideal S1x18688 .f32)
    (d2 : S1024x2560.Idx → Elt Ideal .fp8e4m3) (d3 : S1x1024.Idx → Elt Ideal .f32) :
    win0_4.cut (grid0.coords t) (k0_pay4 (F := Ideal) (((cfg0.win 5).blk t).view.read (Elt Ideal) (G5 X g))
        (win0_2.fill (grid0.coords t) d2 (((cfg0.win 2).blk t).view.read (Elt Ideal) W))
        (((cfg0.win 6).blk t).view.read (Elt Ideal) (G6 X g))
        (win0_3.fill (grid0.coords t) d3 (((cfg0.win 3).blk t).view.read (Elt Ideal) s)))
      = ((cfg0.win 4).blk t).view.read (Elt Ideal) (G4 X g W s) := by
  funext j
  rw [read_blk4]
  have hj := col_lt t j
  refine (pay4_apply _ _ _ _ (win0_4.xinj (grid0.coords t) j)).trans ?_
  have h3 := fill3_apply t d3 s ⟨(j 1).val, hj.1⟩ hj.2
  have h6 := read_blk6 t (G6 X g) (ix2 (⟨(j 0).val, row4_lt t j⟩ : Fin 2048) (0 : Fin 1))
  unfold G4
  refine congrArg₂ (fun a b : EReal => a * b) (congrArg₂ (fun a b : EReal => a * b) (Finset.sum_congr rfl fun k _ => ?_) h6) h3
  exact congrArg₂ (fun a b : EReal => a * b) (read_blk5 t (G5 X g) (ix2 (⟨(j 0).val, row4_lt t j⟩ : Fin 2048) k)) (fill2_apply t d2 W ⟨(j 1).val, hj.1⟩ k hj.2)

/-! ## The written-back blocks cover the arrays -/

theorem covers4 : win0_4.Covers := by decide +kernel
theorem covers5 : win0_5.Covers := by decide +kernel
theorem covers6 : win0_6.Covers := by decide +kernel

end Cert.KernelIdeal.Hand

end
-- ==== Proof.KernelRows.lean ====
/- The idealized kernel's chunk of rows, element by element: the normalised rows, and the codes and scales by the search for
   the exponent. -/
module

public import proofs.«01_k».proof.Proof.KernelIdealTargets
public import proofs.«01_k».proof.Proof.RowBound
public import Idealize.ShloMosaic.Lib.Pointwise
public import Idealize.ShloMosaic.PureOps.IdealRules

@[expose] public section

set_option maxRecDepth 16384

noncomputable section

namespace Cert.KernelIdeal.Rows

open Cert.KernelIdeal Cert.KernelIdeal.Gen Cert.KernelIdeal.Hand

open Idealize.ShloMosaic Idealize.ShloMosaic.Tactic
open Cert.Row Cert.Exponent

theorem named_inv : Named.named (F := Ideal) κ "inv_d" (φ := .f32) 0x39CCCCCD#32 = ((1 / 2560 : ℝ) : EReal) :=
  (IdealRules.named_const.statement κ "inv_d" .f32 0x39CCCCCD#32 ((1 / 2560 : ℝ) : EReal) rfl).2.2

/-- A row of a chunk and the row of gammas. -/
abbrev row (x : Vec Ideal S32x2560 .bf16) (r : Fin 32) : Fin 2560 → EReal := fun k => x (ix2 r k)
abbrev gammas (g : Vec Ideal S1x2560 .bf16) : Fin 2560 → EReal := fun k => g (ix2 0 k)

variable (g : Vec Ideal S1x2560 .bf16) (x : Vec Ideal S32x2560 .bf16)

theorem pay5_apply (r : Fin 32) (k : Fin 2560) : k0_pay5 (F := Ideal) (k0_pay1 g) x (ix2 r k) = normed (row x r) (gammas g) k := by
  pointwise [k0_pay5, k0_pay1]
  rw [named_inv]
  rfl

theorem pay6_apply (r : Fin 32) : k0_pay6 (F := Ideal) (k0_pay1 g) x (ix2 r 0) = peak (row x r) (gammas g) := by
  have h := pay5_apply g x r
  unfold k0_pay6
  revert h
  generalize k0_pay5 (F := Ideal) (k0_pay1 g) x = A
  intro h
  pointwise
  simp only [h]
  rfl

/-- A step of the search on a column. -/
def stepV (v : FVec Ideal S32x1 .f32) (e : IVec S32x1 32) (b : BitVec 32) : IVec S32x1 32 :=
  select (cmpf .oge v (bitcastToFloat .f32 (shli (addi e (broadcast S32x1 b)) (broadcast S32x1 23#32)))) (addi e (broadcast S32x1 b)) e

theorem stepV_apply (v : FVec Ideal S32x1 .f32) (e : IVec S32x1 32) (b : BitVec 32) (y : S32x1.Idx) :
    stepV v e b y = step (v y) (e y) b := by
  pointwise [stepV]
  rfl

theorem pay7_eq : k0_pay7 (F := Ideal) (k0_pay1 g) x
    = stepV (k0_pay6 (F := Ideal) (k0_pay1 g) x) (stepV (k0_pay6 (F := Ideal) (k0_pay1 g) x) (stepV (k0_pay6 (F := Ideal) (k0_pay1 g) x)
      (broadcast S32x1 0#32) 128#32) 64#32) 32#32 := by
  unfold k0_pay7
  generalize k0_pay6 (F := Ideal) (k0_pay1 g) x = v
  rfl

theorem pay7_apply (r : Fin 32) : k0_pay7 (F := Ideal) (k0_pay1 g) x (ix2 r 0) = search3 (peak (row x r) (gammas g)) := by
  rw [pay7_eq, stepV_apply, stepV_apply, stepV_apply, pay6_apply]
  rfl

/-- The exponent from a column of fields. -/
def ofFieldV (e : IVec S32x1 32) : IVec S32x1 32 :=
  select (andi (cmpi .sgt e (broadcast S32x1 0#32)) (cmpi .slt e (broadcast S32x1 255#32))) (subi e (broadcast S32x1 126#32)) (broadcast S32x1 0#32)

theorem ofFieldV_apply (e : IVec S32x1 32) (y : S32x1.Idx) : ofFieldV e y = ofField (e y) := by
  pointwise [ofFieldV]
  rfl

theorem pay8_eq (v : FVec Ideal S32x1 .f32) (e : IVec S32x1 32) : k0_pay8 (F := Ideal) v e
    = ofFieldV (stepV v (stepV v (stepV v (stepV v (stepV v e 16#32) 8#32) 4#32) 2#32) 1#32) := rfl

theorem pay8_apply (v : FVec Ideal S32x1 .f32) (e : IVec S32x1 32) (y : S32x1.Idx) :
    k0_pay8 (F := Ideal) v e y = ofField (search5 (v y) (e y)) := by
  rw [pay8_eq, ofFieldV_apply, stepV_apply, stepV_apply, stepV_apply, stepV_apply, stepV_apply]
  rfl

theorem pay2_apply (e : IVec S32x1 32) (y : S32x1.Idx) :
    k0_pay2 (F := Ideal) e k0_pay9 y = Ideal.ofBits .f32 (IntOp.shli .vector (IntOp.addi 127#32 (e y)) 23#32) := by
  pointwise [k0_pay2, k0_pay9]

theorem pay3_apply (h : FVec Ideal S32x2560 .f32) (e : IVec S32x1 32) (r : Fin 32) (k : Fin 2560) :
    k0_pay3 (F := Ideal) h e (ix2 r k) = min (Ideal.ofBits .f32 0x47600000#32) (max (Ideal.ofBits .f32 0xC7600000#32)
      (h (ix2 r k) * Ideal.ofBits .f32 (IntOp.shli .vector (IntOp.subi 127#32 (e (ix2 r 0))) 23#32))) := by
  pointwise [k0_pay3]

theorem scaleChunk_apply (r : Fin 32) : scaleChunk (F := Ideal) g x (ix2 r 0) = scaleWord (peak (row x r) (gammas g)) := by
  unfold scaleChunk
  rw [pay2_apply, pay8_apply, pay6_apply, pay7_apply]
  rfl

theorem codesChunk_apply (r : Fin 32) (k : Fin 2560) : codesChunk (F := Ideal) g x (ix2 r k)
    = min (Ideal.ofBits .f32 0x47600000#32) (max (Ideal.ofBits .f32 0xC7600000#32)
      (normed (row x r) (gammas g) k * invWord (peak (row x r) (gammas g)))) := by
  unfold codesChunk
  rw [pay3_apply, pay8_apply, pay6_apply, pay7_apply, pay5_apply]
  rfl

end Cert.KernelIdeal.Rows

end
-- ==== Proof.ReferenceRows.lean ====
/- The reference's results, element by element: the normalised rows, and the codes and scales by the logarithm. -/
module

public import proofs.«01_k».proof.Proof.Gen.ReferenceIdeal.Skeleton
public import proofs.«01_k».proof.Proof.Gen.ReferenceIdeal
public import proofs.«01_k».proof.Proof.RowBound
public import Idealize.ShloMosaic.Lib.Pointwise
public import Idealize.ShloMosaic.PureOps.IdealRules

@[expose] public section

set_option maxRecDepth 16384
set_option Elab.async false

noncomputable section

namespace Cert.ReferenceIdeal.Rows

open Cert.ReferenceIdeal Cert.ReferenceIdeal.Gen

open Idealize.ShloMosaic Idealize.ShloMosaic.Tactic
open Cert.Row Cert.Exponent

theorem kappa_ln2 : κ "ln2" = some ((Real.log 2 : ℝ) : EReal) := by
  unfold κ
  rfl

theorem named_ln2 : Named.named (F := Ideal) κ "ln2" (φ := .f32) 0x3F317218#32 = ((Real.log 2 : ℝ) : EReal) :=
  (IdealRules.named_const.statement κ "ln2" .f32 0x3F317218#32 ((Real.log 2 : ℝ) : EReal) kappa_ln2).2.2

/-- The exponent of a column, read at a row. -/
theorem ofLog_apply (v : FVec Ideal S6144x1 .f32) (y : S6144x1.Idx) :
    select (cmpf .oge v (broadcast S6144x1 (Scalar.ofBits (F := Ideal) .f32 0x00800000#32)))
      (addf (floor (divf (log v) (broadcast S6144x1 (Named.named (F := Ideal) κ "ln2" (φ := .f32) 0x3F317218#32))))
        (broadcast S6144x1 (Scalar.ofBits .f32 0x3F800000#32)))
      (broadcast S6144x1 (Scalar.ofBits .f32 0x00000000#32)) y = ofLog (v y) := by
  pointwise
  rw [named_ln2]
  rfl

/-- The maximum along the rows of an array of any height. -/
theorem rowMax_apply {n p : ℕ} (h : (⟨2, ![n, p]⟩ : Shape).Reduces [1] ⟨1, ![n]⟩) (A : FVec Ideal ⟨2, ![n, p]⟩ .f32) (h1) (h2)
    (j : (⟨1, ![n]⟩ : Shape).Idx) :
    multiReduction (F := Ideal) .maximumf [1] ⟨1, ![n]⟩ A 0xFF800000#32 h h1 h2 j
      = Finset.univ.fold max (Ideal.ofBits .f32 0xFF800000#32) (fun k : Fin p => (A (ix2 (j 0) k) : EReal)) := by
  pointwise

theorem column_apply (v : FVec Ideal S6144 .f32) (r : Fin 6144) : shapeCast S6144x1 v shapeCasts_S6144_S6144x1 (ix2 r 0) = v (ix1 r) := by
  pointwise

/-- The greatest magnitude of each row. -/
def magnitudes (A : FVec Ideal S6144x2560 .f32) : FVec Ideal S6144 .f32 :=
  multiReduction .maximumf [1] S6144 (absf A) 0xFF800000#32 reduces_S6144x2560_S6144 (.inl rfl) rfl

theorem magnitudes_apply (A : FVec Ideal S6144x2560 .f32) (r : Fin 6144) : magnitudes A (ix1 r)
    = Finset.univ.fold max (Ideal.ofBits .f32 0xFF800000#32) (fun k : Fin 2560 => max (A (ix2 r k) : EReal) (-(A (ix2 r k) : EReal))) :=
  rowMax_apply reduces_S6144x2560_S6144 (absf A) _ _ (ix1 r)

/-- The exponents of the rows whose greatest magnitudes are given. -/
def exponents (M : FVec Ideal S6144 .f32) : FVec Ideal S6144x1 .f32 :=
  select (cmpf .oge (mulf (shapeCast S6144x1 M shapeCasts_S6144_S6144x1) (broadcast S6144x1 (Scalar.ofBits .f32 0x37924925#32)))
      (broadcast S6144x1 (Scalar.ofBits (F := Ideal) .f32 0x00800000#32)))
    (addf (floor (divf (log (mulf (shapeCast S6144x1 M shapeCasts_S6144_S6144x1) (broadcast S6144x1 (Scalar.ofBits .f32 0x37924925#32))))
        (broadcast S6144x1 (Named.named (F := Ideal) κ "ln2" (φ := .f32) 0x3F317218#32))))
      (broadcast S6144x1 (Scalar.ofBits .f32 0x3F800000#32)))
    (broadcast S6144x1 (Scalar.ofBits .f32 0x00000000#32))

theorem exponents_apply (M : FVec Ideal S6144 .f32) (r : Fin 6144) :
    exponents M (ix2 r 0) = ofLog ((M (ix1 r) : EReal) * Ideal.ofBits .f32 0x37924925#32) := by
  refine (ofLog_apply _ _).trans (congrArg ofLog ?_)
  rw [← column_apply M r]
  pointwise

/-- A row of the array and the row of gammas. -/
abbrev row (X : Vec Ideal S6144x2560 .bf16) (r : Fin 6144) : Fin 2560 → EReal := fun k => X (ix2 r k)
abbrev gammas (g : Vec Ideal S1x2560 .bf16) : Fin 2560 → EReal := fun k => g (ix2 0 k)

/-- Division by the row's length. -/
theorem div_width (s : EReal) : Ideal.div s (Ideal.ofBits .f32 0x45200000#32) = s * ((1 / 2560 : ℝ) : EReal) := by
  rw [width_value]
  unfold Ideal.div
  rw [if_neg (by norm_num), ← EReal.coe_inv, one_div]

variable (X : Vec Ideal S6144x2560 .bf16) (g : Vec Ideal S1x2560 .bf16)

theorem pay2_apply (r : Fin 6144) (k : Fin 2560) : k0_pay2 (F := Ideal) X g (ix2 r k) = normed (row X r) (gammas g) k := by
  pointwise [k0_pay2]
  rw [div_width]
  rfl

theorem pay3_eq : k0_pay3 (F := Ideal) X g = exponents (magnitudes (k0_pay2 (F := Ideal) X g)) := by
  unfold k0_pay3
  generalize k0_pay2 (F := Ideal) X g = A
  rfl

theorem pay3_apply (r : Fin 6144) : k0_pay3 (F := Ideal) X g (ix2 r 0) = ofLog (peak (row X r) (gammas g)) := by
  rw [pay3_eq, exponents_apply, magnitudes_apply]
  simp only [pay2_apply]
  rfl

/-- The scales, of the exponents. -/
def scales (e : FVec Ideal S6144x1 .f32) : FVec Ideal S6144x1 .f32 := exp2 e

theorem scales_apply (e : FVec Ideal S6144x1 .f32) (y : S6144x1.Idx) : scales e y = Ideal.exp2 (e y) := by
  pointwise [scales]
  rfl

theorem pay4_eq : k0_pay4 (F := Ideal) X g = scales (k0_pay3 (F := Ideal) X g) := by
  unfold k0_pay4
  generalize k0_pay3 (F := Ideal) X g = e
  rfl

theorem pay4_apply (r : Fin 6144) : k0_pay4 (F := Ideal) X g (ix2 r 0) = Ideal.exp2 (ofLog (peak (row X r) (gammas g))) := by
  rw [pay4_eq, scales_apply, pay3_apply]

/-- The codes, of the normalised rows and the exponents. -/
def codes (A : FVec Ideal S6144x2560 .f32) (e : FVec Ideal S6144x1 .f32) : FVec Ideal S6144x2560 .fp8e5m2 :=
  truncf .fp8e5m2 (minimumf (broadcast S6144x2560 (Scalar.ofBits .f32 0x47600000#32))
    (maximumf (broadcast S6144x2560 (Scalar.ofBits .f32 0xC7600000#32))
      (mulf A (broadcastTo S6144x2560 (exp2 (subf (broadcast S6144x1 (Scalar.ofBits .f32 0x00000000#32)) e)) broadcasts_S6144x1_S6144x2560))))
    bitsLt_fp8e5m2_f32

theorem codes_apply (A : FVec Ideal S6144x2560 .f32) (e : FVec Ideal S6144x1 .f32) (r : Fin 6144) (k : Fin 2560) : codes A e (ix2 r k)
    = min (Ideal.ofBits .f32 0x47600000#32) (max (Ideal.ofBits .f32 0xC7600000#32)
      ((A (ix2 r k) : EReal) * Ideal.exp2 (0 - e (ix2 r 0)))) := by
  pointwise [codes]
  rfl

theorem pay5_eq : k0_pay5 (F := Ideal) X g = codes (k0_pay2 (F := Ideal) X g) (k0_pay3 (F := Ideal) X g) := by
  unfold k0_pay5
  generalize k0_pay3 (F := Ideal) X g = e
  generalize k0_pay2 (F := Ideal) X g = A
  rfl

theorem pay5_apply (r : Fin 6144) (k : Fin 2560) : k0_pay5 (F := Ideal) X g (ix2 r k)
    = min (Ideal.ofBits .f32 0x47600000#32) (max (Ideal.ofBits .f32 0xC7600000#32)
      (normed (row X r) (gammas g) k * Ideal.exp2 (0 - ofLog (peak (row X r) (gammas g))))) := by
  rw [pay5_eq, codes_apply, pay3_apply, pay2_apply]

theorem pay1_apply (S : FVec Ideal S6144x1 .f32) (C : FVec Ideal S6144x2560 .fp8e5m2) (W : Vec Ideal S18688x2560 .fp8e4m3) (s : Vec Ideal S1x18688 .f32)
    (r : Fin 6144) (n : Fin 18688) : k0_pay1 (F := Ideal) S C W s (ix2 r n)
      = ((∑ k : Fin 2560, (C (ix2 r k) : EReal) * W (ix2 n k)) * S (ix2 r 0)) * s (ix2 0 n) := by
  pointwise [k0_pay1]

end Cert.ReferenceIdeal.Rows

end
-- ==== Proof.Agree.lean ====
/- The kernel's three result arrays are the reference's: the same codes, scales and scaled products, of the same arguments. -/
module

public import proofs.«01_k».proof.Proof.KernelRows
public import proofs.«01_k».proof.Proof.ReferenceRows

@[expose] public section

set_option maxRecDepth 16384
set_option Elab.async false

noncomputable section

namespace Cert.Agree

open Idealize.ShloMosaic Idealize.ShloMosaic.Tactic
open Cert.KernelIdeal Cert.Row Cert.Exponent

variable (X : Vec Ideal S6144x2560 .bf16) (g : Vec Ideal S1x2560 .bf16)

/-- Row `r` of the array is row `r % 32` of chunk `r / 32`. -/
theorem row_chunk (r : Fin 6144) (h) (h') :
    KernelIdeal.Rows.row (KernelIdeal.Hand.rowsA X ⟨r.val / 32, h⟩) ⟨r.val % 32, h'⟩ = ReferenceIdeal.Rows.row X r := by
  funext k
  refine congrArg X (congrArg (fun a : Fin 6144 => ix2 a k) (Fin.ext ?_))
  exact Nat.div_add_mod r.val 32

/-- The gammas are finite, with a magnitude below `2 ^ 128`. -/
abbrev Bounded : Prop := ∀ k : Fin 2560, ∃ r : ℝ, (g (ix2 0 k) : EReal) = (r : EReal) ∧ |r| ≤ 2 ^ 128

theorem words (hg : Bounded g) (r : Fin 6144) :
    scaleWord (peak (ReferenceIdeal.Rows.row X r) (ReferenceIdeal.Rows.gammas g))
        = Ideal.exp2 (ofLog (peak (ReferenceIdeal.Rows.row X r) (ReferenceIdeal.Rows.gammas g)))
      ∧ invWord (peak (ReferenceIdeal.Rows.row X r) (ReferenceIdeal.Rows.gammas g))
        = Ideal.exp2 (0 - ofLog (peak (ReferenceIdeal.Rows.row X r) (ReferenceIdeal.Rows.gammas g))) :=
  words_eq _ (peak_bound (ReferenceIdeal.Rows.row X r) (ReferenceIdeal.Rows.gammas g) hg).1
    (peak_bound (ReferenceIdeal.Rows.row X r) (ReferenceIdeal.Rows.gammas g) hg).2

theorem scale_apply (hg : Bounded g) (r : Fin 6144) :
    KernelIdeal.Hand.G6 X g (ix2 r 0) = ReferenceIdeal.Gen.k0_pay4 (F := Ideal) X g (ix2 r 0) := by
  refine Eq.trans (KernelIdeal.Rows.scaleChunk_apply g _ _) ?_
  refine Eq.trans (congrArg (fun x => scaleWord (peak x (ReferenceIdeal.Rows.gammas g))) (row_chunk X r _ _)) ?_
  exact ((words X g hg r).1).trans (ReferenceIdeal.Rows.pay4_apply X g r).symm

theorem codes_apply (hg : Bounded g) (r : Fin 6144) (k : Fin 2560) :
    KernelIdeal.Hand.G5 X g (ix2 r k) = ReferenceIdeal.Gen.k0_pay5 (F := Ideal) X g (ix2 r k) := by
  refine Eq.trans (KernelIdeal.Rows.codesChunk_apply g _ _ k) ?_
  refine Eq.trans (congrArg (fun x => min (Ideal.ofBits .f32 0x47600000#32) (max (Ideal.ofBits .f32 0xC7600000#32)
    (normed x (ReferenceIdeal.Rows.gammas g) k * invWord (peak x (ReferenceIdeal.Rows.gammas g))))) (row_chunk X r _ _)) ?_
  rw [ReferenceIdeal.Rows.pay5_apply]
  exact congrArg (fun i => min (Ideal.ofBits .f32 0x47600000#32) (max (Ideal.ofBits .f32 0xC7600000#32)
    (normed (ReferenceIdeal.Rows.row X r) (ReferenceIdeal.Rows.gammas g) k * i))) (words X g hg r).2

/-- An array's index of two coordinates is the pair of its coordinates. -/
theorem eta {n p : ℕ} (y : (⟨2, ![n, p]⟩ : Shape).Idx) : y = ix2 (y 0 : Fin n) (y 1 : Fin p) := by
  funext a
  match a with
  | 0 => rfl
  | 1 => rfl

/-- Two arrays of two axes that agree at each pair of coordinates are equal. -/
theorem ext2 {n p : ℕ} {α : Type} (A B : (⟨2, ![n, p]⟩ : Shape).Idx → α) (h : ∀ (r : Fin n) (k : Fin p), A (ix2 r k) = B (ix2 r k)) : A = B := by
  funext y
  rw [eta y]
  exact h _ _

theorem scales (hg : Bounded g) : KernelIdeal.Hand.G6 X g = ReferenceIdeal.Gen.k0_pay4 (F := Ideal) X g :=
  ext2 (n := 6144) (p := 1) _ _ fun r k => by
    rw [Subsingleton.elim k 0]
    exact scale_apply X g hg r

theorem codes (hg : Bounded g) : KernelIdeal.Hand.G5 X g = ReferenceIdeal.Gen.k0_pay5 (F := Ideal) X g :=
  ext2 (n := 6144) (p := 2560) _ _ fun r k => codes_apply X g hg r k

theorem products (W : Vec Ideal S18688x2560 .fp8e4m3) (s : Vec Ideal S1x18688 .f32) (hg : Bounded g) :
    KernelIdeal.Hand.G4 X g W s
      = ReferenceIdeal.Gen.k0_pay1 (F := Ideal) (ReferenceIdeal.Gen.k0_pay4 X g) (ReferenceIdeal.Gen.k0_pay5 X g) W s :=
  ext2 (n := 6144) (p := 18688) _ _ fun r n => by
    rw [ReferenceIdeal.Rows.pay1_apply, ← codes X g hg, ← scales X g hg]
    rfl

end Cert.Agree

end
-- ==== Proof.KernelIdealNamed.lean ====
/- The body of `KernelIdeal` in its two cases, with what it leaves in each result's staging buffer named. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealRuns
public import proofs.«01_k».proof.Proof.KernelIdealLoop
public import Idealize.ShloMosaic.Lib.VecWindow
public import Idealize.ShloMosaic.Lib.Claim

@[expose] public section

-- the accesses' rectangles have production extents: the elaborator's structural look at a membership recurses once per coordinate
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The loop's codes at the gain as the body loads it and the block's contents. -/
theorem loop_codes' (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (k0_h1 : k0_cond1 i = 1#1) (x0 : Vec F S2048x2560 .bf16) (x1 : Vec F S1x2560 .bf16) (f : BufTy.Contents (Elt F) arg7.view.ty) :
    arg7.view.read (Elt F) (arg7.view.writes (Elt F) f (pb_k0_t1 (F := F) Variants.none c none i arg2 harg2 arg3 harg3 arg4 harg4 arg5 harg5 arg6 harg6 arg7 harg7 arg8 harg8 k0_h1
        (View.readAt (Elt F) arg3.view (Rect.unit ![0, 0] S1x2560.size inb_S1x2560_S1x2560_0_0).toLoadRect (harg3.unread x1))
        (harg2.unread x0) (Scf.trips k0_t1_loop.lb k0_t1_loop.ub k0_t1_loop.st)).1)
      = codesBlock x0 x1 := by
  rw [View.readAt_full, harg3.read_unread]
  refine (loop_codes Variants.none c none i arg2 harg2 arg3 harg3 arg4 harg4 arg5 harg5 arg6 harg6 arg7 harg7 arg8 harg8 k0_h1 x1 (harg2.unread x0) f).trans ?_
  rw [harg2.read_unread]

/-- The loop's scale at the gain as the body loads it and the block's contents. -/
theorem loop_scale' (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (k0_h1 : k0_cond1 i = 1#1) (x0 : Vec F S2048x2560 .bf16) (x1 : Vec F S1x2560 .bf16) (f : BufTy.Contents (Elt F) arg8.view.ty) :
    arg8.view.read (Elt F) (arg8.view.writes (Elt F) f (pb_k0_t1 (F := F) Variants.none c none i arg2 harg2 arg3 harg3 arg4 harg4 arg5 harg5 arg6 harg6 arg7 harg7 arg8 harg8 k0_h1
        (View.readAt (Elt F) arg3.view (Rect.unit ![0, 0] S1x2560.size inb_S1x2560_S1x2560_0_0).toLoadRect (harg3.unread x1))
        (harg2.unread x0) (Scf.trips k0_t1_loop.lb k0_t1_loop.ub k0_t1_loop.st)).2)
      = scaleBlock x0 x1 := by
  rw [View.readAt_full, harg3.read_unread]
  refine (loop_scale Variants.none c none i arg2 harg2 arg3 harg3 arg4 harg4 arg5 harg5 arg6 harg6 arg7 harg7 arg8 harg8 k0_h1 x1 (harg2.unread x0) f).trans ?_
  rw [harg2.read_unread]

-- (the run's proof term is large: checking it walks past the default budget)
set_option maxHeartbeats 1000000 in
/-- The body at a row block's first column block, its results named: the loop quantises the block, and the product is taken of what it left. -/
theorem namedRun_A (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : cond0_0 i)
    (x0 : Vec F S2048x2560 .bf16) (x1 : Vec F S1x2560 .bf16) (x2 : Vec F S1024x2560 .fp8e4m3) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (codesBlock x0 x1) x2 (scaleBlock x0 x1) x3) ∗ owns (c : Thread nD τ) arg7 fullShare (codesBlock x0 x1) ∗ owns (c : Thread nD τ) arg8 fullShare (scaleBlock x0 x1)) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full]
      sl_unfold_words
      refine congr (congr (congr (congrArg k0_pay4 ?_) ?_) ?_) ?_
      · rw [View.readAt_full]
        exact loop_codes' c i arg2 harg2 arg3 harg3 arg4 harg4 arg5 harg5 arg6 harg6 arg7 harg7 arg8 harg8 hc0 x0 x1 f5
      · rw [View.readAt_full]; exact harg4.read_unread _
      · rw [View.readAt_full]
        exact loop_scale' c i arg2 harg2 arg3 harg3 arg4 harg4 arg5 harg5 arg6 harg6 arg7 harg7 arg8 harg8 hc0 x0 x1 f6
      · rw [View.readAt_full]; exact harg5.read_unread _
    isplitl [H5]
    · iexists _; isplitr; swap; · iexact H5
      ipureintro
      exact loop_codes' c i arg2 harg2 arg3 harg3 arg4 harg4 arg5 harg5 arg6 harg6 arg7 harg7 arg8 harg8 hc0 x0 x1 f5
    iexists _; isplitr; swap; · iexact H6
    ipureintro
    exact loop_scale' c i arg2 harg2 arg3 harg3 arg4 harg4 arg5 harg5 arg6 harg6 arg7 harg7 arg8 harg8 hc0 x0 x1 f6

-- (the run's proof term is large: checking it walks past the default budget)
set_option maxHeartbeats 1000000 in
/-- The body at any other column block: the codes and scales are read and left as they are. -/
theorem namedRun_B (c : Dev nD) (i : grid0.Coords) (arg2 : Memref sig .tc .vmem S2048x2560 .bf16) (harg2 : arg2.IsWhole) (arg3 : Memref sig .tc .vmem S1x2560 .bf16) (harg3 : arg3.IsWhole) (arg4 : Memref sig .tc .vmem S1024x2560 .fp8e4m3) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x2560 .fp8e5m2) (harg7 : arg7.IsWhole) (arg8 : Memref sig .tc .vmem S2048x1 .f32) (harg8 : arg8.IsWhole) (hc0 : ¬cond0_0 i)
    (x0 : Vec F S2048x2560 .bf16) (x1 : Vec F S1x2560 .bf16) (x2 : Vec F S1024x2560 .fp8e4m3) (x3 : Vec F S1x1024 .f32) (x5 : Vec F S2048x2560 .fp8e5m2) (x6 : Vec F S2048x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x5 x2 x6 x3) ∗ owns (c : Thread nD τ) arg7 fullShare x5 ∗ owns (c : Thread nD τ) arg8 fullShare x6) -∗ K ⟨⟩))
          ⊢ wp frame (wpE (defs₀ (F := F)) Variants.none c none) E (cc0_rmsnorm_fp8_linear i arg2 harg2 arg3 harg3 arg4 harg4 arg5 harg5 arg6 harg6 arg7 harg7 arg8 harg8) K := by
    intro E K
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, View.readAt_full, View.readAt_full, View.readAt_full, View.readAt_full,
        harg7.read_unread, harg4.read_unread, harg8.read_unread, harg5.read_unread]
    isplitl [H5]
    · iexists _; isplitr; · ipureintro; exact harg7.read_unread _
      iexact H5
    iexists _; isplitr; · ipureintro; exact harg8.read_unread _
    iexact H6

end Cert.KernelIdeal.Hand

end
-- ==== Proof.KernelIdealData.lean ====
/- The run of the idealized kernel with its results named: what every staging buffer holds before and after every grid point,
   the body obligation, the launch, and what the three result arrays hold at the end. -/
module

public import proofs.«01_k».proof.Proof.KernelIdealTargets
public import proofs.«01_k».proof.Proof.KernelIdealNamed
public import proofs.«01_k».proof.Proof.KernelIdealFrame

@[expose] public section

set_option maxRecDepth 16384

noncomputable section

namespace Cert.KernelIdeal.Named

open Cert.KernelIdeal Cert.KernelIdeal.Gen Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix2
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The four argument arrays of the region. -/
abbrev aX (c : Dev nD) : Vec Ideal S6144x2560 .bf16 := V m c (Pipeline.arrRef spec0 0)
abbrev aG (c : Dev nD) : Vec Ideal S1x2560 .bf16 := V m c (Pipeline.arrRef spec0 1)
abbrev aW (c : Dev nD) : Vec Ideal S18688x2560 .fp8e4m3 := V m c (Pipeline.arrRef spec0 2)
abbrev aS (c : Dev nD) : Vec Ideal S1x18688 .f32 := V m c (Pipeline.arrRef spec0 3)

/-- The blocks of the three results at a point. -/
def oblk4 (c : Dev nD) (t : Fin cfg0.N) : (win0_4.xblock (grid0.coords t)).Idx → Elt Ideal .bf16 :=
  ((cfg0.win 4).blk t).view.read (Elt Ideal) (G4 (aX m c) (aG m c) (aW m c) (aS m c))
def oblk5 (c : Dev nD) (t : Fin cfg0.N) : S2048x2560.Idx → Elt Ideal .fp8e5m2 :=
  ((cfg0.win 5).blk t).view.read (Elt Ideal) (G5 (aX m c) (aG m c))
def oblk6 (c : Dev nD) (t : Fin cfg0.N) : S2048x1.Idx → Elt Ideal .f32 :=
  ((cfg0.win 6).blk t).view.read (Elt Ideal) (G6 (aX m c) (aG m c))

/-- The proof data: every input's buffer keeps its block, every result's holds the block of its target; where a block overhangs
    its array, zero stands for what lies beyond. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (oblk4 m c t)
    | ⟨5, _⟩ => oblk5 m c t
    | ⟨6, _⟩ => oblk6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = win0_2.fill (grid0.coords t) (fun _ => (0 : EReal)) (iblk m c 2 t) := by dsimp only [dats]
theorem after0_3 (c : Dev nD) (t : Fin cfg0.N) : (dats m 0 c).after 3 t = win0_3.fill (grid0.coords t) (fun _ => (0 : EReal)) (iblk m c 3 t) := by dsimp only [dats]
theorem after0_4 (c : Dev nD) (t : Fin cfg0.N) : (dats m 0 c).after 4 t = win0_4.fill (grid0.coords t) (fun _ => (0 : EReal)) (oblk4 m c t) := by dsimp only [dats]
theorem after0_5 (c : Dev nD) (t : Fin cfg0.N) : (dats m 0 c).after 5 t = oblk5 m c t := by dsimp only [dats]
theorem after0_6 (c : Dev nD) (t : Fin cfg0.N) : (dats m 0 c).after 6 t = oblk6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = win0_3.fill (grid0.coords t) d (iblk m c 3 t) :=
  ((dats m 0 c).before_fetched 3 t (fetch0_3 t) d).trans (by unfold Dat.fetched Dat.blockOf iblk; rw [A_eq]; try rfl)

/-- Windows 5 and 6 are idle away from the first point of a group. -/
theorem idle5 : ∀ t : Fin cfg0.N, cfg0.idle 5 (grid0.coords t) = !decide (t.val % 19 = 0) := (by decide +kernel : ∀ t : Fin grid0.N, _)
theorem idle6 : ∀ t : Fin cfg0.N, cfg0.idle 6 (grid0.coords t) = !decide (t.val % 19 = 0) := (by decide +kernel : ∀ t : Fin grid0.N, _)

theorem oblk5_congr (c : Dev nD) (t t' : Fin cfg0.N) (h : t.val / 19 = t'.val / 19) : oblk5 m c t = oblk5 m c t' := by
  funext y; unfold oblk5; rw [read_blk5, read_blk5]; simp only [h]
theorem oblk6_congr (c : Dev nD) (t t' : Fin cfg0.N) (h : t.val / 19 = t'.val / 19) : oblk6 m c t = oblk6 m c t' := by
  funext y; unfold oblk6; rw [read_blk6, read_blk6]; simp only [h]

/-- Away from the first point of a group, the codes' buffer holds the group's codes already, -/
theorem before0_5 (c : Dev nD) (n : ℕ) (t : Fin cfg0.N) (h : t.val % 19 = n + 1) (d) : (dats m 0 c).before 5 t d = oblk5 m c t := by
  induction n generalizing t with
  | zero =>
    have ht : t.val - 1 < cfg0.N := by have := t.isLt; omega
    rw [(dats m 0 c).before_of_pos 5 t (by omega) rfl d, if_neg (fun hf => by have := (flush0_5 ⟨t.val - 1, ht⟩).mp hf; dsimp only at this; omega)]
    have hi : cfg0.idle 5 (cfg0.grid.coords ⟨t.val - 1, ht⟩) = false := by
      rw [show cfg0.idle 5 (cfg0.grid.coords ⟨t.val - 1, ht⟩) = _ from idle5 ⟨t.val - 1, ht⟩, decide_eq_true (by dsimp only; omega)]; rfl
    unfold Dat.left
    rw [hi]
    refine Eq.trans ?_ (oblk5_congr m c ⟨t.val - 1, ht⟩ t (by dsimp only; omega))
    exact after0_5 m c ⟨t.val - 1, ht⟩
  | succ n ih =>
    have ht : t.val - 1 < cfg0.N := by have := t.isLt; omega
    rw [(dats m 0 c).before_of_pos 5 t (by omega) rfl d, if_neg (fun hf => by have := (flush0_5 ⟨t.val - 1, ht⟩).mp hf; dsimp only at this; omega)]
    have hi : cfg0.idle 5 (cfg0.grid.coords ⟨t.val - 1, ht⟩) = true := by
      rw [show cfg0.idle 5 (cfg0.grid.coords ⟨t.val - 1, ht⟩) = _ from idle5 ⟨t.val - 1, ht⟩, decide_eq_false (by dsimp only; omega)]; rfl
    unfold Dat.left
    rw [hi]
    exact (ih ⟨t.val - 1, ht⟩ (by dsimp only; omega)).trans (oblk5_congr m c ⟨t.val - 1, ht⟩ t (by dsimp only; omega))

/-- and the scales' buffer the group's scales. -/
theorem before0_6 (c : Dev nD) (n : ℕ) (t : Fin cfg0.N) (h : t.val % 19 = n + 1) (d) : (dats m 0 c).before 6 t d = oblk6 m c t := by
  induction n generalizing t with
  | zero =>
    have ht : t.val - 1 < cfg0.N := by have := t.isLt; omega
    rw [(dats m 0 c).before_of_pos 6 t (by omega) rfl d, if_neg (fun hf => by have := (flush0_6 ⟨t.val - 1, ht⟩).mp hf; dsimp only at this; omega)]
    have hi : cfg0.idle 6 (cfg0.grid.coords ⟨t.val - 1, ht⟩) = false := by
      rw [show cfg0.idle 6 (cfg0.grid.coords ⟨t.val - 1, ht⟩) = _ from idle6 ⟨t.val - 1, ht⟩, decide_eq_true (by dsimp only; omega)]; rfl
    unfold Dat.left
    rw [hi]
    refine Eq.trans ?_ (oblk6_congr m c ⟨t.val - 1, ht⟩ t (by dsimp only; omega))
    exact after0_6 m c ⟨t.val - 1, ht⟩
  | succ n ih =>
    have ht : t.val - 1 < cfg0.N := by have := t.isLt; omega
    rw [(dats m 0 c).before_of_pos 6 t (by omega) rfl d, if_neg (fun hf => by have := (flush0_6 ⟨t.val - 1, ht⟩).mp hf; dsimp only at this; omega)]
    have hi : cfg0.idle 6 (cfg0.grid.coords ⟨t.val - 1, ht⟩) = true := by
      rw [show cfg0.idle 6 (cfg0.grid.coords ⟨t.val - 1, ht⟩) = _ from idle6 ⟨t.val - 1, ht⟩, decide_eq_false (by dsimp only; omega)]; rfl
    unfold Dat.left
    rw [hi]
    exact (ih ⟨t.val - 1, ht⟩ (by dsimp only; omega)).trans (oblk6_congr m c ⟨t.val - 1, ht⟩ t (by dsimp only; omega))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ owns (c : Thread nD τ) (ms0_5 t) fullShare ((dats m 0 c).after 5 t)
    ∗ owns (c : Thread nD τ) (ms0_6 t) fullShare ((dats m 0 c).after 6 t))

theorem codes_iblk (c : Dev nD) (t : Fin cfg0.N) : codesBlock (F := Ideal) (iblk m c 0 t) (iblk m c 1 t) = oblk5 m c t := by
  unfold iblk oblk5
  rw [show ((cfg0.win 1).blk t).view.read (Elt Ideal) (V m c (Pipeline.arrRef spec0 1)) = aG m c from read_blk1 t (aG m c)]
  exact codesBlock_eq t (aX m c) (aG m c)
theorem scale_iblk (c : Dev nD) (t : Fin cfg0.N) : scaleBlock (F := Ideal) (iblk m c 0 t) (iblk m c 1 t) = oblk6 m c t := by
  unfold iblk oblk6
  rw [show ((cfg0.win 1).blk t).view.read (Elt Ideal) (V m c (Pipeline.arrRef spec0 1)) = aG m c from read_blk1 t (aG m c)]
  exact scaleBlock_eq t (aX m c) (aG m c)

/-- The stored products fill out the target's block. -/
theorem products_fill (c : Dev nD) (t : Fin cfg0.N) (d2 : S1024x2560.Idx → Elt Ideal .fp8e4m3) (d3 : S1x1024.Idx → Elt Ideal .f32) :
    k0_pay4 (F := Ideal) (oblk5 m c t) (win0_2.fill (grid0.coords t) d2 (iblk m c 2 t)) (oblk6 m c t) (win0_3.fill (grid0.coords t) d3 (iblk m c 3 t))
      = win0_4.fill (grid0.coords t) (k0_pay4 (F := Ideal) (oblk5 m c t) (win0_2.fill (grid0.coords t) d2 (iblk m c 2 t)) (oblk6 m c t) (win0_3.fill (grid0.coords t) d3 (iblk m c 3 t)))
          (win0_4.cut (grid0.coords t) ((dats m 0 c).after 4 t)) := by
  rw [after0_4, win0_4.cut_fill]
  have h : win0_4.cut (grid0.coords t) (k0_pay4 (F := Ideal) (oblk5 m c t) (win0_2.fill (grid0.coords t) d2 (iblk m c 2 t)) (oblk6 m c t) (win0_3.fill (grid0.coords t) d3 (iblk m c 3 t)))
      = oblk4 m c t := products_cut t (aX m c) (aG m c) (aW m c) (aS m c) d2 d3
  rw [← h, win0_4.fill_cut]

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0_0, before0_1, before0_2, before0_3, after0_0, after0_1, after0_5, after0_6]
  have h2 : win0_2.cut (grid0.coords t) ((dats m 0 c).after 2 t) = iblk m c 2 t := by rw [after0_2]; exact win0_2.cut_fill _ _ _
  have h3 : win0_3.cut (grid0.coords t) ((dats m 0 c).after 3 t) = iblk m c 3 t := by rw [after0_3]; exact win0_3.cut_fill _ _ _
  rw [h2, h3]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases h0 : t.val % 19 = 0
  · iapply ((namedRun_A (F := Ideal) c (grid0.coords t) _ _ _ _ _ _ _ _ _ _ _ _ _ _ ((hcond0_0 t).mpr h0) (iblk m c 0 t) (iblk m c 1 t)
      (win0_2.fill (grid0.coords t) d2 (iblk m c 2 t)) (win0_3.fill (grid0.coords t) d3 (iblk m c 3 t))) Set.univ _)
    rw [codes_iblk, scale_iblk]
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iexact H2
    isplitl [H3]; · iexists d3; iexact H3
    isplitl [H4]
    · iexists _
      rw [products_fill m c t d2 d3]
      iexact H4
    isplitl [H5]; · iexact H5
    iexact H6
  · obtain ⟨n, hn⟩ : ∃ n, t.val % 19 = n + 1 := ⟨t.val % 19 - 1, by omega⟩
    rw [before0_5 m c n t hn d5, before0_6 m c n t hn d6]
    iapply ((namedRun_B (F := Ideal) c (grid0.coords t) _ _ _ _ _ _ _ _ _ _ _ _ _ _ (fun h => h0 ((hcond0_0 t).mp h)) (iblk m c 0 t) (iblk m c 1 t)
      (win0_2.fill (grid0.coords t) d2 (iblk m c 2 t)) (win0_3.fill (grid0.coords t) d3 (iblk m c 3 t)) (oblk5 m c t) (oblk6 m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iexact H2
    isplitl [H3]; · iexists d3; iexact H3
    isplitl [H4]
    · iexists _
      rw [products_fill m c t d2 d3]
      iexact H4
    isplitl [H5]; · iexact H5
    iexact H6

/-- Where windows 5 and 6 are idle, what the body leaves is what it found. -/
theorem leaves5 (c : Dev nD) (t : Fin cfg0.N) :
    (owns (c : Thread nD τ) (ms0_5 t) fullShare ((dats m 0 c).after 5 t) : sProp 𝕄)
      ⊢ match cfg0.idle 5 (cfg0.grid.coords t) with
        | true => match (cfg0.win 5).flush t with
          | false => iprop(∃ d, owns (c : Thread nD τ) (ms0_5 t) fullShare ((dats m 0 c).before 5 t d))
          | true => owns (c : Thread nD τ) (ms0_5 t) fullShare ((dats m 0 c).after 5 t)
        | false => owns (c : Thread nD τ) (ms0_5 t) fullShare ((dats m 0 c).after 5 t) := by
  rw [show cfg0.idle 5 (cfg0.grid.coords t) = _ from idle5 t]
  by_cases h0 : t.val % 19 = 0
  · rw [decide_eq_true h0]; exact .rfl
  · rw [decide_eq_false h0]
    cases (cfg0.win 5).flush t with
    | true => exact .rfl
    | false =>
      obtain ⟨n, hn⟩ : ∃ n, t.val % 19 = n + 1 := ⟨t.val % 19 - 1, by omega⟩
      show _ ⊢ iprop(∃ d, owns (c : Thread nD τ) (ms0_5 t) fullShare ((dats m 0 c).before 5 t d))
      iintro H
      iexists oblk5 m c t
      rw [before0_5 m c n t hn, after0_5]
      iexact H
theorem leaves6 (c : Dev nD) (t : Fin cfg0.N) :
    (owns (c : Thread nD τ) (ms0_6 t) fullShare ((dats m 0 c).after 6 t) : sProp 𝕄)
      ⊢ match cfg0.idle 6 (cfg0.grid.coords t) with
        | true => match (cfg0.win 6).flush t with
          | false => iprop(∃ d, owns (c : Thread nD τ) (ms0_6 t) fullShare ((dats m 0 c).before 6 t d))
          | true => owns (c : Thread nD τ) (ms0_6 t) fullShare ((dats m 0 c).after 6 t)
        | false => owns (c : Thread nD τ) (ms0_6 t) fullShare ((dats m 0 c).after 6 t) := by
  rw [show cfg0.idle 6 (cfg0.grid.coords t) = _ from idle6 t]
  by_cases h0 : t.val % 19 = 0
  · rw [decide_eq_true h0]; exact .rfl
  · rw [decide_eq_false h0]
    cases (cfg0.win 6).flush t with
    | true => exact .rfl
    | false =>
      obtain ⟨n, hn⟩ : ∃ n, t.val % 19 = n + 1 := ⟨t.val % 19 - 1, by omega⟩
      show _ ⊢ iprop(∃ d, owns (c : Thread nD τ) (ms0_6 t) fullShare ((dats m 0 c).before 6 t d))
      iintro H
      iexists oblk6 m c t
      rw [before0_6 m c n t hn, after0_6]
      iexact H

/-- The library's body obligation, at every point. -/
theorem body_obligation (c : Dev nD) : BodyObligationLoose (dats m 0 c) (defs₀ (F := Ideal)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5 m c t); iexact H5
  iapply (leaves6 m c t); iexact H6

/-! ## The launch -/

set_option backward.isDefEq.respectTransparency.types false in
set_option maxHeartbeats 800000 in
/-- THE LAUNCH: from any memory with zero counters, every weakly fair execution terminates with the arrays at what the library
    computes from the proof data, and everything else as the lines after the region leave it. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-! ## The result arrays -/

theorem final4 (c : Dev nD) : (dats m 0 c).arrAt 4 cfg0.N = G4 (aX m c) (aG m c) (aW m c) (aS m c) :=
  (dats m 0 c).arrAt_eq_of_cover 4 _ (fun t _ => by
    unfold Dat.flushed; rw [after0_4]; exact win0_4.cut_fill _ _ _) (Window.Covers.cover win0_4 covers4 (Memref.isWhole_whole _))
theorem final5 (c : Dev nD) : (dats m 0 c).arrAt 5 cfg0.N = G5 (aX m c) (aG m c) :=
  (dats m 0 c).arrAt_eq_of_cover 5 _ (fun t _ => by
    unfold Dat.flushed; rw [after0_5]; rfl) (Window.Covers.cover win0_5 covers5 (Memref.isWhole_whole _))
theorem final6 (c : Dev nD) : (dats m 0 c).arrAt 6 cfg0.N = G6 (aX m c) (aG m c) :=
  (dats m 0 c).arrAt_eq_of_cover 6 _ (fun t _ => by
    unfold Dat.flushed; rw [after0_6]; rfl) (Window.Covers.cover win0_6 covers6 (Memref.isWhole_whole _))

end Cert.KernelIdeal.Named

end
-- ==== Proof.KernelIdealValue.lean ====
/- The idealized kernel's three results as functions of its arguments. -/
module

public import proofs.«01_k».proof.Proof.KernelIdealData
public import Idealize.ShloMosaic.Lib.StableHlo.Run

@[expose] public section

set_option maxRecDepth 16384

noncomputable section

namespace Cert.KernelIdeal.Named

open Cert.KernelIdeal Cert.KernelIdeal.Gen Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

/-- The arguments as the region finds them: reshaped by the host, the weights untouched. -/
theorem aX_eq (c : Dev nD) : aX m c = shapeCast S6144x2560 (m ((c.tc : Thread nD τ).loc main_arg0) : Vec Ideal S4x1536x2560 .bf16) shapeCasts_S4x1536x2560_S6144x2560 := by
  show StableHlo.after (List.flatten [hostOps0]) (fun b => m (c, b)) (Proc.devRef .tc main_v0) = _
  simp only [hostOps0, List.flatten_cons, List.flatten_nil, List.append_nil]
  after_results
  rfl
theorem aG_eq (c : Dev nD) : aG m c = shapeCast S1x2560 (m ((c.tc : Thread nD τ).loc main_arg1) : Vec Ideal S2560 .bf16) shapeCasts_S2560_S1x2560 := by
  show StableHlo.after (List.flatten [hostOps0]) (fun b => m (c, b)) (Proc.devRef .tc main_v1) = _
  simp only [hostOps0, List.flatten_cons, List.flatten_nil, List.append_nil]
  after_results
  rfl
theorem aS_eq (c : Dev nD) : aS m c = shapeCast S1x18688 (m ((c.tc : Thread nD τ).loc main_arg3) : Vec Ideal S18688 .f32) shapeCasts_S18688_S1x18688 := by
  show StableHlo.after (List.flatten [hostOps0]) (fun b => m (c, b)) (Proc.devRef .tc main_v2) = _
  simp only [hostOps0, List.flatten_cons, List.flatten_nil, List.append_nil]
  after_results
  rfl
theorem aW_eq (c : Dev nD) : aW m c = (m ((c.tc : Thread nD τ).loc main_arg2) : Vec Ideal S18688x2560 .fp8e4m3) := V_main_arg2 m c

/-- The results as the host leaves them: reshapes of the region's arrays. -/
theorem tail4 (c : Dev nD) : Pipeline.afterTail₀ cfgs (dats m) 0 (V0 m) [hostOps1] c main_v4
    = shapeCast S4x1536x18688 (G4 (aX m c) (aG m c) (aW m c) (aS m c)) shapeCasts_S6144x18688_S4x1536x18688 := by
  unfold Pipeline.afterTail₀
  simp only [hostOps1, List.flatten_cons, List.flatten_nil, List.append_nil]
  after_results
  exact congrArg (fun A => shapeCast S4x1536x18688 A shapeCasts_S6144x18688_S4x1536x18688)
    ((Pipeline.withArrays_arr spec0 launch0.win.arr_inj c (V0 m c) _ 4).trans (final4 m c))
theorem tail5 (c : Dev nD) : Pipeline.afterTail₀ cfgs (dats m) 0 (V0 m) [hostOps1] c main_v5
    = shapeCast S4x1536x2560 (G5 (aX m c) (aG m c)) shapeCasts_S6144x2560_S4x1536x2560 := by
  unfold Pipeline.afterTail₀
  simp only [hostOps1, List.flatten_cons, List.flatten_nil, List.append_nil]
  after_results
  exact congrArg (fun A => shapeCast S4x1536x2560 A shapeCasts_S6144x2560_S4x1536x2560)
    ((Pipeline.withArrays_arr spec0 launch0.win.arr_inj c (V0 m c) _ 5).trans (final5 m c))
theorem tail6 (c : Dev nD) : Pipeline.afterTail₀ cfgs (dats m) 0 (V0 m) [hostOps1] c main_v6
    = shapeCast S4x1536x1 (G6 (aX m c) (aG m c)) shapeCasts_S6144x1_S4x1536x1 := by
  unfold Pipeline.afterTail₀
  simp only [hostOps1, List.flatten_cons, List.flatten_nil, List.append_nil]
  after_results
  exact congrArg (fun A => shapeCast S4x1536x1 A shapeCasts_S6144x1_S4x1536x1)
    ((Pipeline.withArrays_arr spec0 launch0.win.arr_inj c (V0 m c) _ 6).trans (final6 m c))

/-- The run with its results named. -/
theorem run_value : θ_run defs (onTc (τ := τ) (main (F := Ideal))) ⟨m, fun _ => 0, ρ⟩ (fun r => ∀ c : Dev nD,
      r.2.mem ((c.tc : Thread nD τ).loc main_v4) = shapeCast S4x1536x18688 (G4 (aX m c) (aG m c) (aW m c) (aS m c)) shapeCasts_S6144x18688_S4x1536x18688
      ∧ r.2.mem ((c.tc : Thread nD τ).loc main_v5) = shapeCast S4x1536x2560 (G5 (aX m c) (aG m c)) shapeCasts_S6144x2560_S4x1536x2560
      ∧ r.2.mem ((c.tc : Thread nD τ).loc main_v6) = shapeCast S4x1536x1 (G6 (aX m c) (aG m c)) shapeCasts_S6144x1_S4x1536x1) :=
  (θ_run defs _ _).mono (fun _ h c => ⟨
    ((h c).2 main_v4 (Pipeline.mem_restRefs_of main_v4 (by decide) (by decide))).trans (tail4 m c),
    ((h c).2 main_v5 (Pipeline.mem_restRefs_of main_v5 (by decide) (by decide))).trans (tail5 m c),
    ((h c).2 main_v6 (Pipeline.mem_restRefs_of main_v6 (by decide) (by decide))).trans (tail6 m c)⟩) (run_main m ρ)

end Cert.KernelIdeal.Named

end
-- ==== Proof.ReferenceIdealValue.lean ====
/- The reference's three results as functions of its arguments: the one grid point's body leaves its payloads of the whole
   arrays. -/
module

public import proofs.«01_k».proof.Proof.Gen.ReferenceIdeal.Frame
public import Idealize.ShloMosaic.Lib.Pointwise
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.ReferenceIdeal.Hand

open Cert.ReferenceIdeal Cert.ReferenceIdeal.Gen

open Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

/-- The four argument arrays of the region. -/
abbrev aX (c : Dev nD) : Vec Ideal S6144x2560 .bf16 := V m c (Pipeline.arrRef spec0 0)
abbrev aG (c : Dev nD) : Vec Ideal S1x2560 .bf16 := V m c (Pipeline.arrRef spec0 1)
abbrev aW (c : Dev nD) : Vec Ideal S18688x2560 .fp8e4m3 := V m c (Pipeline.arrRef spec0 2)
abbrev aS (c : Dev nD) : Vec Ideal S1x18688 .f32 := V m c (Pipeline.arrRef spec0 3)

/-! ## Every block is its whole array -/

theorem index0 : ∀ t : Fin cfg0.N, win0_0.index t = ![0, 0] := (by decide +kernel : ∀ t : Fin grid0.N, _)
theorem read_blk0 (t : Fin cfg0.N) (A : Vec Ideal S6144x2560 .bf16) : ((cfg0.win 0).blk t).view.read (Elt Ideal) A = A := by
  funext y
  blk_simp
  refine congrArg A (funext fun a => Fin.ext ?_)
  match a with
  | ⟨0, _⟩ => exact (by show (((win0_0.blk t).view.emb y 0 : Fin _) : ℕ) = (y 0).val; blk_simp [index0])
  | ⟨1, _⟩ => exact (by show (((win0_0.blk t).view.emb y 1 : Fin _) : ℕ) = (y 1).val; blk_simp [index0])

theorem index1 : ∀ t : Fin cfg0.N, win0_1.index t = ![0, 0] := (by decide +kernel : ∀ t : Fin grid0.N, _)
theorem read_blk1 (t : Fin cfg0.N) (A : Vec Ideal S1x2560 .bf16) : ((cfg0.win 1).blk t).view.read (Elt Ideal) A = A := by
  funext y
  blk_simp
  refine congrArg A (funext fun a => Fin.ext ?_)
  match a with
  | ⟨0, _⟩ => exact (by show (((win0_1.blk t).view.emb y 0 : Fin _) : ℕ) = (y 0).val; blk_simp [index1])
  | ⟨1, _⟩ => exact (by show (((win0_1.blk t).view.emb y 1 : Fin _) : ℕ) = (y 1).val; blk_simp [index1])

theorem index2 : ∀ t : Fin cfg0.N, win0_2.index t = ![0, 0] := (by decide +kernel : ∀ t : Fin grid0.N, _)
theorem read_blk2 (t : Fin cfg0.N) (A : Vec Ideal S18688x2560 .fp8e4m3) : ((cfg0.win 2).blk t).view.read (Elt Ideal) A = A := by
  funext y
  blk_simp
  refine congrArg A (funext fun a => Fin.ext ?_)
  match a with
  | ⟨0, _⟩ => exact (by show (((win0_2.blk t).view.emb y 0 : Fin _) : ℕ) = (y 0).val; blk_simp [index2])
  | ⟨1, _⟩ => exact (by show (((win0_2.blk t).view.emb y 1 : Fin _) : ℕ) = (y 1).val; blk_simp [index2])

theorem index3 : ∀ t : Fin cfg0.N, win0_3.index t = ![0, 0] := (by decide +kernel : ∀ t : Fin grid0.N, _)
theorem read_blk3 (t : Fin cfg0.N) (A : Vec Ideal S1x18688 .f32) : ((cfg0.win 3).blk t).view.read (Elt Ideal) A = A := by
  funext y
  blk_simp
  refine congrArg A (funext fun a => Fin.ext ?_)
  match a with
  | ⟨0, _⟩ => exact (by show (((win0_3.blk t).view.emb y 0 : Fin _) : ℕ) = (y 0).val; blk_simp [index3])
  | ⟨1, _⟩ => exact (by show (((win0_3.blk t).view.emb y 1 : Fin _) : ℕ) = (y 1).val; blk_simp [index3])

theorem index4 : ∀ t : Fin cfg0.N, win0_4.index t = ![0, 0] := (by decide +kernel : ∀ t : Fin grid0.N, _)
theorem read_blk4 (t : Fin cfg0.N) (A : Vec Ideal S6144x18688 .bf16) : ((cfg0.win 4).blk t).view.read (Elt Ideal) A = A := by
  funext y
  blk_simp
  refine congrArg A (funext fun a => Fin.ext ?_)
  match a with
  | ⟨0, _⟩ => exact (by show (((win0_4.blk t).view.emb y 0 : Fin _) : ℕ) = (y 0).val; blk_simp [index4])
  | ⟨1, _⟩ => exact (by show (((win0_4.blk t).view.emb y 1 : Fin _) : ℕ) = (y 1).val; blk_simp [index4])

theorem index5 : ∀ t : Fin cfg0.N, win0_5.index t = ![0, 0] := (by decide +kernel : ∀ t : Fin grid0.N, _)
theorem read_blk5 (t : Fin cfg0.N) (A : Vec Ideal S6144x2560 .fp8e5m2) : ((cfg0.win 5).blk t).view.read (Elt Ideal) A = A := by
  funext y
  blk_simp
  refine congrArg A (funext fun a => Fin.ext ?_)
  match a with
  | ⟨0, _⟩ => exact (by show (((win0_5.blk t).view.emb y 0 : Fin _) : ℕ) = (y 0).val; blk_simp [index5])
  | ⟨1, _⟩ => exact (by show (((win0_5.blk t).view.emb y 1 : Fin _) : ℕ) = (y 1).val; blk_simp [index5])

theorem index6 : ∀ t : Fin cfg0.N, win0_6.index t = ![0, 0] := (by decide +kernel : ∀ t : Fin grid0.N, _)
theorem read_blk6 (t : Fin cfg0.N) (A : Vec Ideal S6144x1 .f32) : ((cfg0.win 6).blk t).view.read (Elt Ideal) A = A := by
  funext y
  blk_simp
  refine congrArg A (funext fun a => Fin.ext ?_)
  match a with
  | ⟨0, _⟩ => exact (by show (((win0_6.blk t).view.emb y 0 : Fin _) : ℕ) = (y 0).val; blk_simp [index6])
  | ⟨1, _⟩ => exact (by show (((win0_6.blk t).view.emb y 1 : Fin _) : ℕ) = (y 1).val; blk_simp [index6])

/-! ## What the body leaves -/

theorem zeros : (![0, 0] : Fin 2 → Nat) = fun _ => 0 := by decide

section

variable (X : Vec Ideal S6144x2560 .bf16) (g : Vec Ideal S1x2560 .bf16) (W : Vec Ideal S18688x2560 .fp8e4m3) (s : Vec Ideal S1x18688 .f32)

theorem ld_X : View.ld X r0_0 = X := View.ld_unit_zero zeros _ X
theorem ld_g : View.ld g r0_1 = g := View.ld_unit_zero zeros _ g
theorem ld_W : View.ld W r0_2 = W := View.ld_unit_zero zeros _ W
theorem ld_s : View.ld s r0_3 = s := View.ld_unit_zero zeros _ s

theorem out4 : out0_4 X g W s = k0_pay1 (k0_pay4 X g) (k0_pay5 X g) W s := by
  unfold out0_4 k0_pay6 k0_pay7
  rw [ld_X, ld_g, ld_W, ld_s]
  exact View.canon_unit_zero zeros _ _
theorem out5 : out0_5 X g W s = k0_pay5 X g := by
  unfold out0_5 k0_pay7
  rw [ld_X, ld_g]
  exact View.canon_unit_zero zeros _ _
theorem out6 : out0_6 X g W s = k0_pay4 X g := by
  unfold out0_6 k0_pay6
  rw [ld_X, ld_g]
  exact View.canon_unit_zero zeros _ _

end

theorem iblk0 (c : Dev nD) (t : Fin cfg0.N) : iblk m c 0 t = aX m c := read_blk0 t _
theorem iblk1 (c : Dev nD) (t : Fin cfg0.N) : iblk m c 1 t = aG m c := read_blk1 t _
theorem iblk2 (c : Dev nD) (t : Fin cfg0.N) : iblk m c 2 t = aW m c := read_blk2 t _
theorem iblk3 (c : Dev nD) (t : Fin cfg0.N) : iblk m c 3 t = aS m c := read_blk3 t _

/-! ## The result arrays -/

theorem covers4 : Window.Covers win0_4 := by decide +kernel
theorem covers5 : Window.Covers win0_5 := by decide +kernel
theorem covers6 : Window.Covers win0_6 := by decide +kernel

/-- No block overhangs its array: what is written back is the whole buffer. -/
theorem cut4 (t : Fin cfg0.N) (A : Vec Ideal S6144x18688 .bf16) : (cfg0.win 4).cut (cfg0.grid.coords t) A = A := rfl
theorem cut5 (t : Fin cfg0.N) (A : Vec Ideal S6144x2560 .fp8e5m2) : (cfg0.win 5).cut (cfg0.grid.coords t) A = A := rfl
theorem cut6 (t : Fin cfg0.N) (A : Vec Ideal S6144x1 .f32) : (cfg0.win 6).cut (cfg0.grid.coords t) A = A := rfl

theorem final4 (c : Dev nD) : (dats m 0 c).arrAt 4 cfg0.N = k0_pay1 (k0_pay4 (aX m c) (aG m c)) (k0_pay5 (aX m c) (aG m c)) (aW m c) (aS m c) :=
  (dats m 0 c).arrAt_eq_of_cover 4 _ (fun t _ => by
    unfold Dat.flushed; rw [after0_4, out4, iblk0, iblk1, iblk2, iblk3]; exact (cut4 t _).trans (read_blk4 t _).symm) (Window.Covers.cover win0_4 covers4 (Memref.isWhole_whole _))
theorem final5 (c : Dev nD) : (dats m 0 c).arrAt 5 cfg0.N = k0_pay5 (aX m c) (aG m c) :=
  (dats m 0 c).arrAt_eq_of_cover 5 _ (fun t _ => by
    unfold Dat.flushed; rw [after0_5, out5, iblk0, iblk1]; exact (cut5 t _).trans (read_blk5 t _).symm) (Window.Covers.cover win0_5 covers5 (Memref.isWhole_whole _))
theorem final6 (c : Dev nD) : (dats m 0 c).arrAt 6 cfg0.N = k0_pay4 (aX m c) (aG m c) :=
  (dats m 0 c).arrAt_eq_of_cover 6 _ (fun t _ => by
    unfold Dat.flushed; rw [after0_6, out6, iblk0, iblk1]; exact (cut6 t _).trans (read_blk6 t _).symm) (Window.Covers.cover win0_6 covers6 (Memref.isWhole_whole _))

/-- The arguments as the region finds them: reshaped by the host, the weights untouched. -/
theorem aX_eq (c : Dev nD) : aX m c = shapeCast S6144x2560 (m ((c.tc : Thread nD τ).loc main_arg0) : Vec Ideal S4x1536x2560 .bf16) shapeCasts_S4x1536x2560_S6144x2560 := by
  show StableHlo.after (List.flatten [hostOps0]) (fun b => m (c, b)) (Proc.devRef .tc main_v0) = _
  simp only [hostOps0, List.flatten_cons, List.flatten_nil, List.append_nil]
  after_results
  rfl
theorem aG_eq (c : Dev nD) : aG m c = shapeCast S1x2560 (m ((c.tc : Thread nD τ).loc main_arg1) : Vec Ideal S2560 .bf16) shapeCasts_S2560_S1x2560 := by
  show StableHlo.after (List.flatten [hostOps0]) (fun b => m (c, b)) (Proc.devRef .tc main_v1) = _
  simp only [hostOps0, List.flatten_cons, List.flatten_nil, List.append_nil]
  after_results
  rfl
theorem aS_eq (c : Dev nD) : aS m c = shapeCast S1x18688 (m ((c.tc : Thread nD τ).loc main_arg3) : Vec Ideal S18688 .f32) shapeCasts_S18688_S1x18688 := by
  show StableHlo.after (List.flatten [hostOps0]) (fun b => m (c, b)) (Proc.devRef .tc main_v2) = _
  simp only [hostOps0, List.flatten_cons, List.flatten_nil, List.append_nil]
  after_results
  rfl
theorem aW_eq (c : Dev nD) : aW m c = (m ((c.tc : Thread nD τ).loc main_arg2) : Vec Ideal S18688x2560 .fp8e4m3) := V_main_arg2 m c

/-- The results as the host leaves them: reshapes of the region's arrays. -/
theorem tail4 (c : Dev nD) : Pipeline.afterTail₀ cfgs (dats m) 0 (V0 m) [hostOps1] c main_v4
    = shapeCast S4x1536x18688 (k0_pay1 (k0_pay4 (aX m c) (aG m c)) (k0_pay5 (aX m c) (aG m c)) (aW m c) (aS m c)) shapeCasts_S6144x18688_S4x1536x18688 := by
  unfold Pipeline.afterTail₀
  simp only [hostOps1, List.flatten_cons, List.flatten_nil, List.append_nil]
  after_results
  exact congrArg (fun A => shapeCast S4x1536x18688 A shapeCasts_S6144x18688_S4x1536x18688)
    ((Pipeline.withArrays_arr spec0 launch0.win.arr_inj c (V0 m c) _ 4).trans (final4 m c))
theorem tail5 (c : Dev nD) : Pipeline.afterTail₀ cfgs (dats m) 0 (V0 m) [hostOps1] c main_v5
    = shapeCast S4x1536x2560 (k0_pay5 (aX m c) (aG m c)) shapeCasts_S6144x2560_S4x1536x2560 := by
  unfold Pipeline.afterTail₀
  simp only [hostOps1, List.flatten_cons, List.flatten_nil, List.append_nil]
  after_results
  exact congrArg (fun A => shapeCast S4x1536x2560 A shapeCasts_S6144x2560_S4x1536x2560)
    ((Pipeline.withArrays_arr spec0 launch0.win.arr_inj c (V0 m c) _ 5).trans (final5 m c))
theorem tail6 (c : Dev nD) : Pipeline.afterTail₀ cfgs (dats m) 0 (V0 m) [hostOps1] c main_v6
    = shapeCast S4x1536x1 (k0_pay4 (aX m c) (aG m c)) shapeCasts_S6144x1_S4x1536x1 := by
  unfold Pipeline.afterTail₀
  simp only [hostOps1, List.flatten_cons, List.flatten_nil, List.append_nil]
  after_results
  exact congrArg (fun A => shapeCast S4x1536x1 A shapeCasts_S6144x1_S4x1536x1)
    ((Pipeline.withArrays_arr spec0 launch0.win.arr_inj c (V0 m c) _ 6).trans (final6 m c))

/-- The run with its results named. -/
theorem run_value : θ_run defs (onTc (τ := τ) (main (F := Ideal))) ⟨m, fun _ => 0, ρ⟩ (fun r => ∀ c : Dev nD,
      r.2.mem ((c.tc : Thread nD τ).loc main_v4) = shapeCast S4x1536x18688 (k0_pay1 (k0_pay4 (aX m c) (aG m c)) (k0_pay5 (aX m c) (aG m c)) (aW m c) (aS m c)) shapeCasts_S6144x18688_S4x1536x18688
      ∧ r.2.mem ((c.tc : Thread nD τ).loc main_v5) = shapeCast S4x1536x2560 (k0_pay5 (aX m c) (aG m c)) shapeCasts_S6144x2560_S4x1536x2560
      ∧ r.2.mem ((c.tc : Thread nD τ).loc main_v6) = shapeCast S4x1536x1 (k0_pay4 (aX m c) (aG m c)) shapeCasts_S6144x1_S4x1536x1) :=
  (θ_run defs _ _).mono (fun _ h c => ⟨
    ((h c).2 main_v4 (Pipeline.mem_restRefs_of main_v4 (by decide) (by decide))).trans (tail4 m c),
    ((h c).2 main_v5 (Pipeline.mem_restRefs_of main_v5 (by decide) (by decide))).trans (tail5 m c),
    ((h c).2 main_v6 (Pipeline.mem_restRefs_of main_v6 (by decide) (by decide))).trans (tail6 m c)⟩) (run_main m ρ)

end Cert.ReferenceIdeal.Hand

end
-- ==== Proof.Algebraic.lean ====
/- The algebraic claim: on equal arguments whose gammas are finite the two programs leave equal results. -/
module

public import proofs.«01_k».proof.Defs
public import proofs.«01_k».proof.Proof.Agree
public import proofs.«01_k».proof.Proof.Precondition
public import proofs.«01_k».proof.Proof.KernelIdealValue
public import proofs.«01_k».proof.Proof.ReferenceIdealValue

@[expose] public section

set_option maxRecDepth 16384

noncomputable section

namespace Cert.Agree

open Idealize.ShloMosaic Idealize.ShloMosaic.Tactic Idealize.SL.Sem

/-- The row of gammas, read at a column. -/
theorem gamma_row (v : Vec Ideal KernelIdeal.S2560 .bf16) (k : Fin 2560) :
    shapeCast KernelIdeal.S1x2560 v KernelIdeal.Gen.shapeCasts_S2560_S1x2560 (ix2 0 k) = v (ix1 k) := by
  pointwise

theorem bounded (m : (ℓ : Loc KernelIdeal.nD KernelIdeal.τ KernelIdeal.sig) → Buf (Elt Ideal) ℓ) (h : Cert.Pre_KernelIdeal_gamma_finite m)
    (c : Dev KernelIdeal.nD) : Bounded (KernelIdeal.Named.aG m c) := by
  intro k
  rw [KernelIdeal.Named.aG_eq, gamma_row]
  exact Pre_gamma_finite.Hand.gamma_bounded _ _ _ _ (h c) k

theorem algebraic : Cert.algebraic_KernelIdeal_ReferenceIdeal_pre_gamma_finite := by
  intro m g m' g' hpre hargs
  have eX : ∀ c, ReferenceIdeal.Hand.aX m' c = KernelIdeal.Named.aX m c := fun c => by
    rw [ReferenceIdeal.Hand.aX_eq, KernelIdeal.Named.aX_eq, (hargs c).1]
  have eG : ∀ c, ReferenceIdeal.Hand.aG m' c = KernelIdeal.Named.aG m c := fun c => by
    rw [ReferenceIdeal.Hand.aG_eq, KernelIdeal.Named.aG_eq, (hargs c).2.1]
  have eW : ∀ c, ReferenceIdeal.Hand.aW m' c = KernelIdeal.Named.aW m c := fun c => by
    rw [ReferenceIdeal.Hand.aW_eq, KernelIdeal.Named.aW_eq]; exact (hargs c).2.2.1
  have eS : ∀ c, ReferenceIdeal.Hand.aS m' c = KernelIdeal.Named.aS m c := fun c => by
    rw [ReferenceIdeal.Hand.aS_eq, KernelIdeal.Named.aS_eq, (hargs c).2.2.2]
  refine ⟨fun c => shapeCast KernelIdeal.S4x1536x18688 (KernelIdeal.Hand.G4 (KernelIdeal.Named.aX m c) (KernelIdeal.Named.aG m c)
      (KernelIdeal.Named.aW m c) (KernelIdeal.Named.aS m c)) KernelIdeal.Gen.shapeCasts_S6144x18688_S4x1536x18688,
    fun c => shapeCast KernelIdeal.S4x1536x2560 (KernelIdeal.Hand.G5 (KernelIdeal.Named.aX m c) (KernelIdeal.Named.aG m c))
      KernelIdeal.Gen.shapeCasts_S6144x2560_S4x1536x2560,
    fun c => shapeCast KernelIdeal.S4x1536x1 (KernelIdeal.Hand.G6 (KernelIdeal.Named.aX m c) (KernelIdeal.Named.aG m c))
      KernelIdeal.Gen.shapeCasts_S6144x1_S4x1536x1, ?_, ?_⟩
  · refine (θ_run _ _ _).mono (fun r h c => ?_) (θ_run_and (KernelIdeal.Named.run_value m g) (KernelIdeal.Hand.unchanged m g))
    exact ⟨(h.1 c).1, (h.1 c).2.1, (h.1 c).2.2, h.2 c⟩
  · refine (θ_run _ _ _).mono (fun r h c => ?_) (θ_run_and (ReferenceIdeal.Hand.run_value m' g') (ReferenceIdeal.Gen.unchanged m' g'))
    have hg := bounded m hpre c
    have h0 := h.1 c
    rw [eX c, eG c, eW c, eS c, ← products _ _ _ _ hg, ← codes _ _ hg, ← scales _ _ hg] at h0
    exact ⟨h0.1, h0.2.1, h0.2.2, h.2 c⟩

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.Precondition
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_gamma_finite.Hand.facts,
    fun m ρ _ => Cert.Kernel.Hand.frame m ρ,
    fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    IdealRules.named_const.statement Cert.KernelIdeal.κ "inv_d" .f32 0x39CCCCCD#32 _ rfl,
    Cert.Agree.algebraic⟩

end Cert.Proof

end
